-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v18_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8192x2048 : Shape := ⟨2, ![8192, 2048]⟩
abbrev S16384x2048 : Shape := ⟨2, ![16384, 2048]⟩
abbrev S1024x512x128 : Shape := ⟨3, ![1024, 512, 128]⟩
abbrev S2048 : Shape := ⟨1, ![2048]⟩
abbrev S2048x16384 : Shape := ⟨2, ![2048, 16384]⟩
abbrev S1024x64x8x128 : Shape := ⟨4, ![1024, 64, 8, 128]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S128x4x8x128 : Shape := ⟨4, ![128, 4, 8, 128]⟩
abbrev S_ : Shape := ⟨0, ![]⟩
abbrev S2x1024x512 : Shape := ⟨3, ![2, 1024, 512]⟩
abbrev S1024x512 : Shape := ⟨2, ![1024, 512]⟩
abbrev S128x1x8x128 : Shape := ⟨4, ![128, 1, 8, 128]⟩
abbrev S128x8x128 : Shape := ⟨3, ![128, 8, 128]⟩
abbrev S1024x128 : Shape := ⟨2, ![1024, 128]⟩
abbrev S1x1024x128 : Shape := ⟨3, ![1, 1024, 128]⟩
abbrev S1x1024x512 : Shape := ⟨3, ![1, 1024, 512]⟩
abbrev S1024 : Shape := ⟨1, ![1024]⟩
abbrev S1024x1 : Shape := ⟨2, ![1024, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S16384x2048, .f32⟩
  | .hbm, ⟨2, _⟩ => ⟨S16384x2048, .f32⟩
  | .hbm, ⟨3, _⟩ => ⟨S1024x512x128, .i32⟩
  | .hbm, ⟨4, _⟩ => ⟨S2048, .f32⟩
  | .hbm, ⟨5, _⟩ => ⟨S2048, .f32⟩
  | .hbm, ⟨6, _⟩ => ⟨S8192x2048, .bf16⟩
  | .hbm, ⟨7, _⟩ => ⟨S2048x16384, .f32⟩
  | .hbm, ⟨8, _⟩ => ⟨S2048x16384, .bf16⟩
  | .hbm, ⟨9, _⟩ => ⟨S16384x2048, .bf16⟩
  | .hbm, ⟨10, _⟩ => ⟨S1024x64x8x128, .i32⟩
  | .hbm, ⟨11, _⟩ => ⟨S1x2048, .f32⟩
  | .hbm, ⟨12, _⟩ => ⟨S1x2048, .f32⟩
  | .hbm, ⟨13, _⟩ => ⟨S8192x2048, .f32⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S128x4x8x128, .i32⟩
  | .local _ .vmem, ⟨10, _⟩ => ⟨S128x4x8x128, .i32⟩
  | .local _ .vmem, ⟨11, _⟩ => ⟨S1x2048, .f32⟩
  | .local _ .vmem, ⟨12, _⟩ => ⟨S1x2048, .f32⟩
  | .local _ .vmem, ⟨13, _⟩ => ⟨S1024x2048, .f32⟩
  | .local _ .vmem, ⟨14, _⟩ => ⟨S1024x2048, .f32⟩
  | .local _ .vmem, ⟨15, _⟩ => ⟨S2x1024x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v125 : BitVec 32 := Scalar.muli arg0 c1024_i32
  v125
def k0_off1 (i : grid0.Coords) : Fin 2 → Nat :=
  let arg0 : BitVec 32 := BitVec.ofNat 32 (i 0).val
  let c1024_i32 : BitVec 32 := 1024#32
  let v125 : BitVec 32 := Scalar.muli arg0 c1024_i32
  let v126 : BitVec 32 := v125
  let c0_i32_80 : BitVec 32 := 0#32
  ![v126.toNat, 0]
def k0_cond2 (i : grid0.Coords) : BitVec 1 :=
  let arg1 : BitVec 32 := BitVec.ofNat 32 (i 1).val
  let c15_i32 : BitVec 32 := 15#32
  let v122 : BitVec 1 := Scalar.cmpi .eq arg1 c15_i32
  let v123 : BitVec 32 := Scalar.extui v122
  let c0_i32_79 : BitVec 32 := 0#32
  let v124 : BitVec 1 := Scalar.cmpi .ne v123 c0_i32_79
  v124

def k0_mult2 (i : grid0.Coords) : BitVec 32 :=
  let arg0 : BitVec 32 := BitVec.ofNat 32 (i 0).val
  let c1024_i32 : BitVec 32 := 1024#32
  let v125 : BitVec 32 := Scalar.muli arg0 c1024_i32
  v125
def k0_off2 (i : grid0.Coords) : Fin 2 → Nat :=
  let arg0 : BitVec 32 := BitVec.ofNat 32 (i 0).val
  let c1024_i32 : BitVec 32 := 1024#32
  let v125 : BitVec 32 := Scalar.muli arg0 c1024_i32
  let v126 : BitVec 32 := v125
  let c0_i32_80 : BitVec 32 := 0#32
  ![v126.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x4x8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S8192x2048 : Shape := ⟨2, ![8192, 2048]⟩
abbrev S16384x2048 : Shape := ⟨2, ![16384, 2048]⟩
abbrev S1024x512x128 : Shape := ⟨3, ![1024, 512, 128]⟩
abbrev S2048 : Shape := ⟨1, ![2048]⟩
abbrev S1024x64x8x128 : Shape := ⟨4, ![1024, 64, 8, 128]⟩
abbrev S1024x8x64x128 : Shape := ⟨4, ![1024, 8, 64, 128]⟩
abbrev S8192x8192 : Shape := ⟨2, ![8192, 8192]⟩
abbrev S_ : Shape := ⟨0, ![]⟩
abbrev S8192x16384 : Shape := ⟨2, ![8192, 16384]⟩
abbrev S8192 : Shape := ⟨1, ![8192]⟩
abbrev S8192x1 : Shape := ⟨2, ![8192, 1]⟩
abbrev S1x2048 : Shape := ⟨2, ![1, 2048]⟩

abbrev nBuf : Space → Nat
  | .hbm => 63
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16384x2048, .f32⟩
  | .hbm, ⟨2, _⟩ => ⟨S16384x2048, .f32⟩
  | .hbm, ⟨3, _⟩ => ⟨S1024x512x128, .i32⟩
  | .hbm, ⟨4, _⟩ => ⟨S2048, .f32⟩
  | .hbm, ⟨5, _⟩ => ⟨S2048, .f32⟩
  | .hbm, ⟨6, _⟩ => ⟨S1024x64x8x128, .i32⟩
  | .hbm, ⟨7, _⟩ => ⟨S1024x8x64x128, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .f32⟩
  | .hbm, ⟨13, _⟩ => ⟨S_, .i32⟩
  | .hbm, ⟨14, _⟩ => ⟨S8192x8192, .i32⟩
  | .hbm, ⟨15, _⟩ => ⟨S8192x8192, .i32⟩
  | .hbm, ⟨16, _⟩ => ⟨S8192x8192, .f32⟩
  | .hbm, ⟨17, _⟩ => ⟨S8192x16384, .f32⟩
  | .hbm, ⟨18, _⟩ => ⟨S8192x16384, .f32⟩
  | .hbm, ⟨19, _⟩ => ⟨S_, .f32⟩
  | .hbm, ⟨20, _⟩ => ⟨S8192x16384, .f32⟩
  | .hbm, ⟨21, _⟩ => ⟨S8192x16384, .f32⟩
  | .hbm, ⟨22, _⟩ => ⟨S8192x16384, .f32⟩
  | .hbm, ⟨23, _⟩ => ⟨S_, .f32⟩
  | .hbm, ⟨24, _⟩ => ⟨S8192x16384, .f32⟩
  | .hbm, ⟨25, _⟩ => ⟨S8192x16384, .f32⟩
  | .hbm, ⟨26, _⟩ => ⟨S8192x16384, .f32⟩
  | .hbm, ⟨27, _⟩ => ⟨S8192x16384, .f32⟩
  | .hbm, ⟨28, _⟩ => ⟨S8192x16384, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x2048, .f32⟩
  | .hbm, ⟨56, _⟩ => ⟨S8192x2048, .f32⟩
  | .hbm, ⟨57, _⟩ => ⟨S1x2048, .f32⟩
  | .hbm, ⟨58, _⟩ => ⟨S8192x2048, .f32⟩
  | .hbm, ⟨59, _⟩ => ⟨S8192x2048, .f32⟩
  | .hbm, ⟨60, _⟩ => ⟨S1x2048, .f32⟩
  | .hbm, ⟨61, _⟩ => ⟨S8192x2048, .f32⟩
  | .hbm, ⟨62, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Kernel2.lean ====
abbrev S8192x2048 : Shape := ⟨2, ![8192, 2048]⟩
abbrev S2048x7184 : Shape := ⟨2, ![2048, 7184]⟩
abbrev S7184x2048 : Shape := ⟨2, ![7184, 2048]⟩
abbrev S8192x7168 : Shape := ⟨2, ![8192, 7168]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x7184, .f32⟩
  | .hbm, ⟨2, _⟩ => ⟨S7184x2048, .f32⟩
  | .hbm, ⟨3, _⟩ => ⟨S8192x2048, .bf16⟩
  | .hbm, ⟨4, _⟩ => ⟨S8192x7168, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 7], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c3_i32 : BitVec 32 := 3#32
  let v1 : BitVec 1 := Scalar.cmpi .sge arg1 c3_i32
  let c16_i32 : BitVec 32 := 16#32
  let c0_i32 : BitVec 32 := 0#32
  let v2 : BitVec 32 := Scalar.select v1 c16_i32 c0_i32
  let v3 : BitVec 32 := Scalar.addi v0 v2
  v3
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c3_i32 : BitVec 32 := 3#32
  let v1 : BitVec 1 := Scalar.cmpi .sge arg1 c3_i32
  let c16_i32 : BitVec 32 := 16#32
  let c0_i32 : BitVec 32 := 0#32
  let v2 : BitVec 32 := Scalar.select v1 c16_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S8192x2048 : Shape := ⟨2, ![8192, 2048]⟩
abbrev S2048x7184 : Shape := ⟨2, ![2048, 7184]⟩
abbrev S8192x7184 : Shape := ⟨2, ![8192, 7184]⟩
abbrev S8192x3072 : Shape := ⟨2, ![8192, 3072]⟩
abbrev S8192x4096 : Shape := ⟨2, ![8192, 4096]⟩
abbrev S8192x7168 : Shape := ⟨2, ![8192, 7168]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x7184, .f32⟩
  | .hbm, ⟨2, _⟩ => ⟨S8192x7184, .f32⟩
  | .hbm, ⟨3, _⟩ => ⟨S8192x3072, .f32⟩
  | .hbm, ⟨4, _⟩ => ⟨S8192x4096, .f32⟩
  | .hbm, ⟨5, _⟩ => ⟨S8192x7168, .f32⟩
  | .hbm, ⟨6, _⟩ => ⟨S8192x7168, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S128x2048 : Shape := ⟨2, ![128, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S8192x2048, .bf16⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S8192x2048, .f32⟩
  | .hbm, ⟨11, _⟩ => ⟨S8192x2048, .bf16⟩
  | .hbm, ⟨12, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S128x2048, .bf16⟩
  | .local _ .vmem, ⟨14, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S8192x2048, .bf16⟩
  | .hbm, ⟨41, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel4.lean ====
abbrev S8192x2048 : Shape := ⟨2, ![8192, 2048]⟩
abbrev S2048x7184 : Shape := ⟨2, ![2048, 7184]⟩
abbrev S16x512 : Shape := ⟨2, ![16, 512]⟩
abbrev S512 : Shape := ⟨1, ![512]⟩
abbrev S_ : Shape := ⟨0, ![]⟩
abbrev S128x512 : Shape := ⟨2, ![128, 512]⟩
abbrev S7184x2048 : Shape := ⟨2, ![7184, 2048]⟩
abbrev S1x512 : Shape := ⟨2, ![1, 512]⟩
abbrev S8192x512 : Shape := ⟨2, ![8192, 512]⟩
abbrev S1024x2048 : Shape := ⟨2, ![1024, 2048]⟩
abbrev S128x2048 : Shape := ⟨2, ![128, 2048]⟩
abbrev S1024x512 : Shape := ⟨2, ![1024, 512]⟩
abbrev S256x256 : Shape := ⟨2, ![256, 256]⟩
abbrev S256x2048 : Shape := ⟨2, ![256, 2048]⟩
abbrev S256x128 : Shape := ⟨2, ![256, 128]⟩
abbrev S256x512 : Shape := ⟨2, ![256, 512]⟩

abbrev nBuf : Space → Nat
  | .hbm => 12
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x7184, .f32⟩
  | .hbm, ⟨2, _⟩ => ⟨S16x512, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S128x512, .f32⟩
  | .hbm, ⟨7, _⟩ => ⟨S128x512, .bf16⟩
  | .hbm, ⟨8, _⟩ => ⟨S7184x2048, .f32⟩
  | .hbm, ⟨9, _⟩ => ⟨S1x512, .f32⟩
  | .hbm, ⟨10, _⟩ => ⟨S8192x512, .f32⟩
  | .hbm, ⟨11, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S128x2048, .f32⟩
  | .local _ .vmem, ⟨3, _⟩ => ⟨S128x512, .bf16⟩
  | .local _ .vmem, ⟨4, _⟩ => ⟨S1x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | .local _ .vmem, ⟨8, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c24_i32 : BitVec 32 := 24#32
  let c0_i32 : BitVec 32 := 0#32
  let c0_i32_0 : BitVec 32 := 0#32
  ![c24_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8192x2048 : Shape := ⟨2, ![8192, 2048]⟩
abbrev S2048x7184 : Shape := ⟨2, ![2048, 7184]⟩
abbrev S16x512 : Shape := ⟨2, ![16, 512]⟩
abbrev S512 : Shape := ⟨1, ![512]⟩
abbrev S2048x16 : Shape := ⟨2, ![2048, 16]⟩
abbrev S8192x16 : Shape := ⟨2, ![8192, 16]⟩
abbrev S8192x512 : Shape := ⟨2, ![8192, 512]⟩
abbrev S1x512 : Shape := ⟨2, ![1, 512]⟩
abbrev S_ : Shape := ⟨0, ![]⟩
abbrev S128x64x512 : Shape := ⟨3, ![128, 64, 512]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x7184, .f32⟩
  | .hbm, ⟨2, _⟩ => ⟨S16x512, .f32⟩
  | .hbm, ⟨3, _⟩ => ⟨S512, .f32⟩
  | .hbm, ⟨4, _⟩ => ⟨S2048x16, .f32⟩
  | .hbm, ⟨5, _⟩ => ⟨S8192x16, .f32⟩
  | .hbm, ⟨6, _⟩ => ⟨S8192x512, .f32⟩
  | .hbm, ⟨7, _⟩ => ⟨S1x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x512, .i1⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S128x64x512, .f32⟩
  | .hbm, ⟨30, _⟩ => ⟨S_, .f32⟩
  | .hbm, ⟨31, _⟩ => ⟨S_, .f32⟩
  | .hbm, ⟨32, _⟩ => ⟨S128x64x512, .f32⟩
  | .hbm, ⟨33, _⟩ => ⟨S8192x512, .f32⟩
  | .hbm, ⟨34, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_call0_cst : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_call0_v5 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_v1 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_call1_call0_cst : Ref sig .tc := ⟨.hbm, 30, rfl⟩
abbrev main_call1_call0_v0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩

abbrev nD : Nat := 1
abbrev τ : Topo := Topo.v7x

variable {F : FTy → Type} [FloatOps F]
-- ==== Kernel5.lean ====
abbrev S8192x7168 : Shape := ⟨2, ![8192, 7168]⟩
abbrev S8192x512 : Shape := ⟨2, ![8192, 512]⟩
abbrev S1024 : Shape := ⟨1, ![1024]⟩
abbrev S2048x2048 : Shape := ⟨2, ![2048, 2048]⟩
abbrev S128 : Shape := ⟨1, ![128]⟩
abbrev S_ : Shape := ⟨0, ![]⟩
abbrev S2048 : Shape := ⟨1, ![2048]⟩
abbrev S2048x1 : Shape := ⟨2, ![2048, 1]⟩
abbrev S1x128 : Shape := ⟨2, ![1, 128]⟩
abbrev S2048x128 : Shape := ⟨2, ![2048, 128]⟩
abbrev S1x1024 : Shape := ⟨2, ![1, 1024]⟩
abbrev S8192x2048 : Shape := ⟨2, ![8192, 2048]⟩
abbrev S512x7168 : Shape := ⟨2, ![512, 7168]⟩
abbrev S512x512 : Shape := ⟨2, ![512, 512]⟩
abbrev S512x128 : Shape := ⟨2, ![512, 128]⟩
abbrev S128x2048 : Shape := ⟨2, ![128, 2048]⟩
abbrev S512x2048 : Shape := ⟨2, ![512, 2048]⟩
abbrev S4x256x128 : Shape := ⟨3, ![4, 256, 128]⟩
abbrev S4x256x256 : Shape := ⟨3, ![4, 256, 256]⟩
abbrev S64x64 : Shape := ⟨2, ![64, 64]⟩
abbrev S64x256 : Shape := ⟨2, ![64, 256]⟩
abbrev S64x128 : Shape := ⟨2, ![64, 128]⟩
abbrev S1x256x128 : Shape := ⟨3, ![1, 256, 128]⟩
abbrev S256x128 : Shape := ⟨2, ![256, 128]⟩
abbrev S64 : Shape := ⟨1, ![64]⟩
abbrev S64x1 : Shape := ⟨2, ![64, 1]⟩
abbrev S1x256 : Shape := ⟨2, ![1, 256]⟩
abbrev S1x256x256 : Shape := ⟨3, ![1, 256, 256]⟩
abbrev S256x256 : Shape := ⟨2, ![256, 256]⟩

abbrev nBuf : Space → Nat
  | .hbm => 27
  | .vmem => 18
  | .smem => 0
  | _ => 0

abbrev bufTy : (tb : Table) → Fin (tcTables nBuf tb) → BufTy
  | .hbm, ⟨0, _⟩ => ⟨S8192x7168, .f32⟩
  | .hbm, ⟨1, _⟩ => ⟨S8192x512, .f32⟩
  | .hbm, ⟨2, _⟩ => ⟨S1024, .f32⟩
  | .hbm, ⟨3, _⟩ => ⟨S1024, .f32⟩
  | .hbm, ⟨4, _⟩ => ⟨S2048x2048, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S2048, .i32⟩
  | .hbm, ⟨14, _⟩ => ⟨S2048, .f32⟩
  | .hbm, ⟨15, _⟩ => ⟨S2048x1, .f32⟩
  | .hbm, ⟨16, _⟩ => ⟨S1x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S8192x7168, .bf16⟩
  | .hbm, ⟨21, _⟩ => ⟨S2048x128, .f32⟩
  | .hbm, ⟨22, _⟩ => ⟨S2048x128, .f32⟩
  | .hbm, ⟨23, _⟩ => ⟨S1x1024, .f32⟩
  | .hbm, ⟨24, _⟩ => ⟨S1x1024, .f32⟩
  | .hbm, ⟨25, _⟩ => ⟨S8192x2048, .bf16⟩
  | .hbm, ⟨26, _⟩ => ⟨S2048x2048, .bf16⟩
  | .local _ .vmem, ⟨0, _⟩ => ⟨S512x7168, .bf16⟩
  | .local _ .vmem, ⟨1, _⟩ => ⟨S512x7168, .bf16⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1x1024, .f32⟩
  | .local _ .vmem, ⟨10, _⟩ => ⟨S128x2048, .f32⟩
  | .local _ .vmem, ⟨11, _⟩ => ⟨S128x2048, .f32⟩
  | .local _ .vmem, ⟨12, _⟩ => ⟨S512x2048, .bf16⟩
  | .local _ .vmem, ⟨13, _⟩ => ⟨S512x2048, .bf16⟩
  | .local _ .vmem, ⟨14, _⟩ => ⟨S128x2048, .bf16⟩
  | .local _ .vmem, ⟨15, _⟩ => ⟨S128x2048, .bf16⟩
  | .local _ .vmem, ⟨16, _⟩ => ⟨S4x256x128, .f32⟩
  | .local _ .vmem, ⟨17, _⟩ => ⟨S4x256x256, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 4], ![false, false]⟩

def k0_mult1 : BitVec 32 :=
  let c0_i32_4 : BitVec 32 := 0#32
  let c64_i32 : BitVec 32 := 64#32
  let v14 : BitVec 32 := Scalar.muli c0_i32_4 c64_i32
  v14
def k0_off1 (c0_i32_4 : BitVec 32) : Fin 2 → Nat :=
  let c64_i32 : BitVec 32 := 64#32
  let v14 : BitVec 32 := Scalar.muli c0_i32_4 c64_i32
  let v15 : BitVec 32 := v14
  let v16 : Index := Scalar.indexCast v15
  let c0_5 : Index := 0#32
  ![v16.toNat, 0]
def k0_off2 (c0_i32_4 : BitVec 32) : Fin 2 → Nat :=
  let c64_i32 : BitVec 32 := 64#32
  let v14 : BitVec 32 := Scalar.muli c0_i32_4 c64_i32
  let v15 : BitVec 32 := v14
  let v22 : Index := Scalar.indexCast v15
  let c512 : Index := 512#32
  ![v22.toNat, 512]
def k0_off3 (c0_i32_4 : BitVec 32) : Fin 2 → Nat :=
  let c64_i32 : BitVec 32 := 64#32
  let v14 : BitVec 32 := Scalar.muli c0_i32_4 c64_i32
  let v15 : BitVec 32 := v14
  let v26 : Index := Scalar.indexCast v15
  let c1024 : Index := 1024#32
  ![v26.toNat, 1024]
def k0_off4 (c0_i32_4 : BitVec 32) : Fin 2 → Nat :=
  let c64_i32 : BitVec 32 := 64#32
  let v14 : BitVec 32 := Scalar.muli c0_i32_4 c64_i32
  let v15 : BitVec 32 := v14
  let v29 : Index := Scalar.indexCast v15
  let c2048 : Index := 2048#32
  ![v29.toNat, 2048]
def k0_off5 (c0_i32_4 : BitVec 32) : Fin 2 → Nat :=
  let c64_i32 : BitVec 32 := 64#32
  let v14 : BitVec 32 := Scalar.muli c0_i32_4 c64_i32
  let v15 : BitVec 32 := v14
  let v33 : Index := Scalar.indexCast v15
  let c0_6 : Index := 0#32
  ![v33.toNat, 0]
def k0_off6 (c0_i32_4 : BitVec 32) : Fin 2 → Nat :=
  let c64_i32 : BitVec 32 := 64#32
  let v14 : BitVec 32 := Scalar.muli c0_i32_4 c64_i32
  let v15 : BitVec 32 := v14
  let v95 : Index := Scalar.indexCast v15
  let c0_23 : Index := 0#32
  ![v95.toNat, 0]
def k0_off7 (c0_i32_4 : BitVec 32) : Fin 2 → Nat :=
  let c64_i32 : BitVec 32 := 64#32
  let v14 : BitVec 32 := Scalar.muli c0_i32_4 c64_i32
  let v15 : BitVec 32 := v14
  let v97 : Index := Scalar.indexCast v15
  let c128 : Index := 128#32
  ![v97.toNat, 128]
def k0_off8 (c0_i32_4 : BitVec 32) : Fin 2 → Nat :=
  let c64_i32 : BitVec 32 := 64#32
  let v14 : BitVec 32 := Scalar.muli c0_i32_4 c64_i32
  let v15 : BitVec 32 := v14
  let v103 : Index := Scalar.indexCast v15
  let c640 : Index := 640#32
  ![v103.toNat, 640]
def k0_off9 (c0_i32_4 : BitVec 32) : Fin 2 → Nat :=
  let c64_i32 : BitVec 32 := 64#32
  let v14 : BitVec 32 := Scalar.muli c0_i32_4 c64_i32
  let v15 : BitVec 32 := v14
  let v107 : Index := Scalar.indexCast v15
  let c1280 : Index := 1280#32
  ![v107.toNat, 1280]
def k0_off10 (c0_i32_4 : BitVec 32) : Fin 2 → Nat :=
  let c64_i32 : BitVec 32 := 64#32
  let v14 : BitVec 32 := Scalar.muli c0_i32_4 c64_i32
  let v15 : BitVec 32 := v14
  let v110 : Index := Scalar.indexCast v15
  let c2304 : Index := 2304#32
  ![v110.toNat, 2304]
def k0_off11 (c0_i32_4 : BitVec 32) : Fin 2 → Nat :=
  let c64_i32 : BitVec 32 := 64#32
  let v14 : BitVec 32 := Scalar.muli c0_i32_4 c64_i32
  let v15 : BitVec 32 := v14
  let v114 : Index := Scalar.indexCast v15
  let c128_25 : Index := 128#32
  ![v114.toNat, 128]
def k0_off12 (c0_i32_4 : BitVec 32) : Fin 2 → Nat :=
  let c64_i32 : BitVec 32 := 64#32
  let v14 : BitVec 32 := Scalar.muli c0_i32_4 c64_i32
  let v15 : BitVec 32 := v14
  let v176 : Index := Scalar.indexCast v15
  let c256_40 : Index := 256#32
  ![v176.toNat, 256]
def k0_off13 (c0_i32_4 : BitVec 32) : Fin 2 → Nat :=
  let c64_i32 : BitVec 32 := 64#32
  let v14 : BitVec 32 := Scalar.muli c0_i32_4 c64_i32
  let v15 : BitVec 32 := v14
  let v178 : Index := Scalar.indexCast v15
  let c256_41 : Index := 256#32
  ![v178.toNat, 256]
def k0_off14 (c0_i32_4 : BitVec 32) : Fin 2 → Nat :=
  let c64_i32 : BitVec 32 := 64#32
  let v14 : BitVec 32 := Scalar.muli c0_i32_4 c64_i32
  let v15 : BitVec 32 := v14
  let v184 : Index := Scalar.indexCast v15
  let c768 : Index := 768#32
  ![v184.toNat, 768]
def k0_off15 (c0_i32_4 : BitVec 32) : Fin 2 → Nat :=
  let c64_i32 : BitVec 32 := 64#32
  let v14 : BitVec 32 := Scalar.muli c0_i32_4 c64_i32
  let v15 : BitVec 32 := v14
  let v188 : Index := Scalar.indexCast v15
  let c1536 : Index := 1536#32
  ![v188.toNat, 1536]
def k0_off16 (c0_i32_4 : BitVec 32) : Fin 2 → Nat :=
  let c64_i32 : BitVec 32 := 64#32
  let v14 : BitVec 32 := Scalar.muli c0_i32_4 c64_i32
  let v15 : BitVec 32 := v14
  let v191 : Index := Scalar.indexCast v15
  let c2560 : Index := 2560#32
  ![v191.toNat, 2560]
def k0_off17 (c0_i32_4 : BitVec 32) : Fin 2 → Nat :=
  let c64_i32 : BitVec 32 := 64#32
  let v14 : BitVec 32 := Scalar.muli c0_i32_4 c64_i32
  let v15 : BitVec 32 := v14
  let v195 : Index := Scalar.indexCast v15
  let c256_43 : Index := 256#32
  ![v195.toNat, 256]
def k0_off18 (c0_i32_4 : BitVec 32) : Fin 2 → Nat :=
  let c64_i32 : BitVec 32 := 64#32
  let v14 : BitVec 32 := Scalar.muli c0_i32_4 c64_i32
  let v15 : BitVec 32 := v14
  let v257 : Index := Scalar.indexCast v15
  let c512_59 : Index := 512#32
  ![v257.toNat, 512]
def k0_off19 (c0_i32_4 : BitVec 32) : Fin 2 → Nat :=
  let c64_i32 : BitVec 32 := 64#32
  let v14 : BitVec 32 := Scalar.muli c0_i32_4 c64_i32
  let v15 : BitVec 32 := v14
  let v259 : Index := Scalar.indexCast v15
  let c384 : Index := 384#32
  ![v259.toNat, 384]
def k0_off20 (c0_i32_4 : BitVec 32) : Fin 2 → Nat :=
  let c64_i32 : BitVec 32 := 64#32
  let v14 : BitVec 32 := Scalar.muli c0_i32_4 c64_i32
  let v15 : BitVec 32 := v14
  let v265 : Index := Scalar.indexCast v15
  let c896 : Index := 896#32
  ![v265.toNat, 896]
def k0_off21 (c0_i32_4 : BitVec 32) : Fin 2 → Nat :=
  let c64_i32 : BitVec 32 := 64#32
  let v14 : BitVec 32 := Scalar.muli c0_i32_4 c64_i32
  let v15 : BitVec 32 := v14
  let v269 : Index := Scalar.indexCast v15
  let c1792 : Index := 1792#32
  ![v269.toNat, 1792]
def k0_off22 (c0_i32_4 : BitVec 32) : Fin 2 → Nat :=
  let c64_i32 : BitVec 32 := 64#32
  let v14 : BitVec 32 := Scalar.muli c0_i32_4 c64_i32
  let v15 : BitVec 32 := v14
  let v272 : Index := Scalar.indexCast v15
  let c2816 : Index := 2816#32
  ![v272.toNat, 2816]
def k0_off23 (c0_i32_4 : BitVec 32) : Fin 2 → Nat :=
  let c64_i32 : BitVec 32 := 64#32
  let v14 : BitVec 32 := Scalar.muli c0_i32_4 c64_i32
  let v15 : BitVec 32 := v14
  let v276 : Index := Scalar.indexCast v15
  let c384_61 : Index := 384#32
  ![v276.toNat, 384]
def k0_off24 (c0_i32_4 : BitVec 32) : Fin 2 → Nat :=
  let c64_i32 : BitVec 32 := 64#32
  let v14 : BitVec 32 := Scalar.muli c0_i32_4 c64_i32
  let v15 : BitVec 32 := v14
  let v338 : Index := Scalar.indexCast v15
  let c768_77 : Index := 768#32
  ![v338.toNat, 768]
def k0_off25 (c0_i32_4 : BitVec 32) : Fin 2 → Nat :=
  let c64_i32 : BitVec 32 := 64#32
  let v14 : BitVec 32 := Scalar.muli c0_i32_4 c64_i32
  let v15 : BitVec 32 := v14
  let v340 : Index := Scalar.indexCast v15
  let c0_78 : Index := 0#32
  ![v340.toNat, 0]
def k0_off26 (c0_i32_4 : BitVec 32) : Fin 2 → Nat :=
  let c64_i32 : BitVec 32 := 64#32
  let v14 : BitVec 32 := Scalar.muli c0_i32_4 c64_i32
  let v15 : BitVec 32 := v14
  let v346 : Index := Scalar.indexCast v15
  let c3072 : Index := 3072#32
  ![v346.toNat, 3072]
def k0_off27 (c0_i32_4 : BitVec 32) : Fin 2 → Nat :=
  let c64_i32 : BitVec 32 := 64#32
  let v14 : BitVec 32 := Scalar.muli c0_i32_4 c64_i32
  let v15 : BitVec 32 := v14
  let v359 : Index := Scalar.indexCast v15
  let c4096 : Index := 4096#32
  ![v359.toNat, 4096]
def k0_off28 (c0_i32_4 : BitVec 32) : Fin 2 → Nat :=
  let c64_i32 : BitVec 32 := 64#32
  let v14 : BitVec 32 := Scalar.muli c0_i32_4 c64_i32
  let v15 : BitVec 32 := v14
  let v374 : Index := Scalar.indexCast v15
  let c5120 : Index := 5120#32
  ![v374.toNat, 5120]
def k0_off29 (c0_i32_4 : BitVec 32) : Fin 2 → Nat :=
  let c64_i32 : BitVec 32 := 64#32
  let v14 : BitVec 32 := Scalar.muli c0_i32_4 c64_i32
  let v15 : BitVec 32 := v14
  let v377 : Index := Scalar.indexCast v15
  let c6144 : Index := 6144#32
  ![v377.toNat, 6144]
def k0_off30 (c0_i32_4 : BitVec 32) : Fin 2 → Nat :=
  let c64_i32 : BitVec 32 := 64#32
  let v14 : BitVec 32 := Scalar.muli c0_i32_4 c64_i32
  let v15 : BitVec 32 := v14
  let v439 : Index := Scalar.indexCast v15
  let c1024_104 : Index := 1024#32
  ![v439.toNat, 1024]
def k0_off31 (c0_i32_4 : BitVec 32) : Fin 2 → Nat :=
  let c64_i32 : BitVec 32 := 64#32
  let v14 : BitVec 32 := Scalar.muli c0_i32_4 c64_i32
  let v15 : BitVec 32 := v14
  let v441 : Index := Scalar.indexCast v15
  let c3328 : Index := 3328#32
  ![v441.toNat, 3328]
def k0_off32 (c0_i32_4 : BitVec 32) : Fin 2 → Nat :=
  let c64_i32 : BitVec 32 := 64#32
  let v14 : BitVec 32 := Scalar.muli c0_i32_4 c64_i32
  let v15 : BitVec 32 := v14
  let v454 : Index := Scalar.indexCast v15
  let c4352 : Index := 4352#32
  ![v454.toNat, 4352]
def k0_off33 (c0_i32_4 : BitVec 32) : Fin 2 → Nat :=
  let c64_i32 : BitVec 32 := 64#32
  let v14 : BitVec 32 := Scalar.muli c0_i32_4 c64_i32
  let v15 : BitVec 32 := v14
  let v469 : Index := Scalar.indexCast v15
  let c5376 : Index := 5376#32
  ![v469.toNat, 5376]
def k0_off34 (c0_i32_4 : BitVec 32) : Fin 2 → Nat :=
  let c64_i32 : BitVec 32 := 64#32
  let v14 : BitVec 32 := Scalar.muli c0_i32_4 c64_i32
  let v15 : BitVec 32 := v14
  let v472 : Index := Scalar.indexCast v15
  let c6400 : Index := 6400#32
  ![v472.toNat, 6400]
def k0_off35 (c0_i32_4 : BitVec 32) : Fin 2 → Nat :=
  let c64_i32 : BitVec 32 := 64#32
  let v14 : BitVec 32 := Scalar.muli c0_i32_4 c64_i32
  let v15 : BitVec 32 := v14
  let v534 : Index := Scalar.indexCast v15
  let c1280_129 : Index := 1280#32
  ![v534.toNat, 1280]
def k0_off36 (c0_i32_4 : BitVec 32) : Fin 2 → Nat :=
  let c64_i32 : BitVec 32 := 64#32
  let v14 : BitVec 32 := Scalar.muli c0_i32_4 c64_i32
  let v15 : BitVec 32 := v14
  let v536 : Index := Scalar.indexCast v15
  let c3584 : Index := 3584#32
  ![v536.toNat, 3584]
def k0_off37 (c0_i32_4 : BitVec 32) : Fin 2 → Nat :=
  let c64_i32 : BitVec 32 := 64#32
  let v14 : BitVec 32 := Scalar.muli c0_i32_4 c64_i32
  let v15 : BitVec 32 := v14
  let v549 : Index := Scalar.indexCast v15
  let c4608 : Index := 4608#32
  ![v549.toNat, 4608]
def k0_off38 (c0_i32_4 : BitVec 32) : Fin 2 → Nat :=
  let c64_i32 : BitVec 32 := 64#32
  let v14 : BitVec 32 := Scalar.muli c0_i32_4 c64_i32
  let v15 : BitVec 32 := v14
  let v564 : Index := Scalar.indexCast v15
  let c5632 : Index := 5632#32
  ![v564.toNat, 5632]
def k0_off39 (c0_i32_4 : BitVec 32) : Fin 2 → Nat :=
  let c64_i32 : BitVec 32 := 64#32
  let v14 : BitVec 32 := Scalar.muli c0_i32_4 c64_i32
  let v15 : BitVec 32 := v14
  let v567 : Index := Scalar.indexCast v15
  let c6656 : Index := 6656#32
  ![v567.toNat, 6656]
def k0_off40 (c0_i32_4 : BitVec 32) : Fin 2 → Nat :=
  let c64_i32 : BitVec 32 := 64#32
  let v14 : BitVec 32 := Scalar.muli c0_i32_4 c64_i32
  let v15 : BitVec 32 := v14
  let v629 : Index := Scalar.indexCast v15
  let c1536_154 : Index := 1536#32
  ![v629.toNat, 1536]
def k0_off41 (c0_i32_4 : BitVec 32) : Fin 2 → Nat :=
  let c64_i32 : BitVec 32 := 64#32
  let v14 : BitVec 32 := Scalar.muli c0_i32_4 c64_i32
  let v15 : BitVec 32 := v14
  let v631 : Index := Scalar.indexCast v15
  let c3840 : Index := 3840#32
  ![v631.toNat, 3840]
def k0_off42 (c0_i32_4 : BitVec 32) : Fin 2 → Nat :=
  let c64_i32 : BitVec 32 := 64#32
  let v14 : BitVec 32 := Scalar.muli c0_i32_4 c64_i32
  let v15 : BitVec 32 := v14
  let v644 : Index := Scalar.indexCast v15
  let c4864 : Index := 4864#32
  ![v644.toNat, 4864]
def k0_off43 (c0_i32_4 : BitVec 32) : Fin 2 → Nat :=
  let c64_i32 : BitVec 32 := 64#32
  let v14 : BitVec 32 := Scalar.muli c0_i32_4 c64_i32
  let v15 : BitVec 32 := v14
  let v659 : Index := Scalar.indexCast v15
  let c5888 : Index := 5888#32
  ![v659.toNat, 5888]
def k0_off44 (c0_i32_4 : BitVec 32) : Fin 2 → Nat :=
  let c64_i32 : BitVec 32 := 64#32
  let v14 : BitVec 32 := Scalar.muli c0_i32_4 c64_i32
  let v15 : BitVec 32 := v14
  let v662 : Index := Scalar.indexCast v15
  let c6912 : Index := 6912#32
  ![v662.toNat, 6912]
def k0_off45 (c0_i32_4 : BitVec 32) : Fin 2 → Nat :=
  let c64_i32 : BitVec 32 := 64#32
  let v14 : BitVec 32 := Scalar.muli c0_i32_4 c64_i32
  let v15 : BitVec 32 := v14
  let v724 : Index := Scalar.indexCast v15
  let c1792_179 : Index := 1792#32
  ![v724.toNat, 1792]
def k0_mult2 : BitVec 32 :=
  let c1_i32 : BitVec 32 := 1#32
  let c64_i32_180 : BitVec 32 := 64#32
  let v726 : BitVec 32 := Scalar.muli c1_i32 c64_i32_180
  v726
def k0_mult3 : BitVec 32 :=
  let c2_i32 : BitVec 32 := 2#32
  let c64_i32_391 : BitVec 32 := 64#32
  let v1438 : BitVec 32 := Scalar.muli c2_i32 c64_i32_391
  v1438
def k0_mult4 : BitVec 32 :=
  let c3_i32 : BitVec 32 := 3#32
  let c64_i32_602 : BitVec 32 := 64#32
  let v2150 : BitVec 32 := Scalar.muli c3_i32 c64_i32_602
  v2150
def k0_mult5 : BitVec 32 :=
  let c4_i32 : BitVec 32 := 4#32
  let c64_i32_813 : BitVec 32 := 64#32
  let v2862 : BitVec 32 := Scalar.muli c4_i32 c64_i32_813
  v2862
def k0_mult6 : BitVec 32 :=
  let c5_i32 : BitVec 32 := 5#32
  let c64_i32_1024 : BitVec 32 := 64#32
  let v3574 : BitVec 32 := Scalar.muli c5_i32 c64_i32_1024
  v3574
def k0_mult7 : BitVec 32 :=
  let c6_i32 : BitVec 32 := 6#32
  let c64_i32_1235 : BitVec 32 := 64#32
  let v4286 : BitVec 32 := Scalar.muli c6_i32 c64_i32_1235
  v4286
def k0_mult8 : BitVec 32 :=
  let c7_i32 : BitVec 32 := 7#32
  let c64_i32_1446 : BitVec 32 := 64#32
  let v4998 : BitVec 32 := Scalar.muli c7_i32 c64_i32_1446
  v4998
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8192x7168 : Shape := ⟨2, ![8192, 7168]⟩
abbrev S8192x512 : Shape := ⟨2, ![8192, 512]⟩
abbrev S1024 : Shape := ⟨1, ![1024]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8192x512, .f32⟩
  | .hbm, ⟨2, _⟩ => ⟨S1024, .f32⟩
  | .hbm, ⟨3, _⟩ => ⟨S1024, .f32⟩
  | .hbm, ⟨4, _⟩ => ⟨S2048x2048, .f32⟩
  | .hbm, ⟨5, _⟩ => ⟨S2048x2048, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== Proof.PeerRun.lean ====
module

public import proofs.«01_k».proof.Proof.Gen.KernelIdeal.Frame
public import proofs.«01_k».proof.Proof.Gen.KernelIdeal.Skeleton
public import Idealize.ShloMosaic.Lib.VecWindow

@[expose] public section

/-! The body of the expert call, run once at a grid point, in the three cases of the expert axis: its first step (the residual
block is sent for, the result's block starts at zero), a step in the middle, and its last step (the residual block is waited
for, the sum is normalised). What each case leaves is written as plain functions of the operands' blocks. -/

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.Pipeline (Dat Cfg Window BodyObligation cellOf)

variable {F : FTy → Type} [FloatOps F]

local notation "𝕄" => MT nD τ sig Unit (Elt F) ℕ (Pipeline.UD sig nD τ) ℕ

/-- The residual array, whole. -/
abbrev hM : Memref sig .tc .hbm S8192x2048 .f32 := Memref.whole main_arg0
/-- The buffer the residual block lands in. -/
abbrev bufM : Memref sig .tc .vmem S1024x2048 .f32 := Memref.whole cc0_scratch0
/-- The buffer of the two gated blocks. -/
abbrev gsM : Memref sig .tc .vmem S2x1024x512 .bf16 := Memref.whole cc0_scratch2
/-- Where row block `b` of the residual starts. -/
abbrev rowOff (b : Fin 8) : Fin 2 → Nat := ![1024 * b.val, 0]
theorem rowOff_inb (b : Fin 8) : ∀ a, rowOff b a + S1024x2048.size a ≤ S8192x2048.size a := by
  have := b.isLt; intro a; fin_cases a
  · show 1024 * b.val + 1024 ≤ 8192; omega
  · show 0 + 2048 ≤ 2048; omega
/-- Row block `b` of the residual. -/
abbrev rowM (b : Fin 8) : Memref sig .tc .hbm S1024x2048 .f32 :=
  hM.slice (Rect.unit (s := S8192x2048) (rowOff b) S1024x2048.size (rowOff_inb b)) (fun _ => rfl)

/-! ## What one point computes -/

abbrev full2 : Rect S1024x2048 := Rect.unit (s := S1024x2048) ![0, 0] S1024x2048.size inb_S1024x2048_S1024x2048_0_0
abbrev fullU : Rect S2048x512 := Rect.unit (s := S2048x512) ![0, 0] S2048x512.size inb_S2048x512_S2048x512_0_0
abbrev fullV : Rect S512x2048 := Rect.unit (s := S512x2048) ![0, 0] S512x2048.size inb_S512x2048_S512x2048_0_0
abbrev fullR : Rect S1x2048 := Rect.unit (s := S1x2048) ![0, 0] S1x2048.size inb_S1x2048_S1x2048_0_0

section pieces
variable (x2 : Vec F S1024x2048 .bf16) (x4 x5 : Vec F S2048x512 .bf16) (x6 x7 : Vec F S512x2048 .bf16)
    (x8 : Vec F S128x4x8x128 .i32)

def w0 : Vec F S128x1x8x128 .i32 := ld x8 (Rect.unit (s := S128x4x8x128) ![0, 0, 0, 0] S128x1x8x128.size inb_S128x4x8x128_S128x1x8x128_0_0_0_0)
def w1 : Vec F S128x1x8x128 .i32 := ld x8 (Rect.unit (s := S128x4x8x128) ![0, 1, 0, 0] S128x1x8x128.size inb_S128x4x8x128_S128x1x8x128_0_1_0_0)
def w2 : Vec F S128x1x8x128 .i32 := ld x8 (Rect.unit (s := S128x4x8x128) ![0, 2, 0, 0] S128x1x8x128.size inb_S128x4x8x128_S128x1x8x128_0_2_0_0)
def w3 : Vec F S128x1x8x128 .i32 := ld x8 (Rect.unit (s := S128x4x8x128) ![0, 3, 0, 0] S128x1x8x128.size inb_S128x4x8x128_S128x1x8x128_0_3_0_0)
/-- The activations of the lower half's experts. -/
def actLo : FVec F S1024x512 .f32 := k0_pay6 (ld x2 full2) (ld x4 fullU)
/-- The activations of the upper half's experts. -/
def actHi : FVec F S1024x512 .f32 := k0_pay12 (k0_pay5 (ld x2 full2)) (ld x5 fullU)

/-- The eight gated slabs, in the order they are stored, the last first. -/
def gated : List (View.Piece (Elt F) S2x1024x512 .bf16) :=
  [⟨Rect.unit (s := S2x1024x512) ![1, 0, 384] S1x1024x128.size inb_S2x1024x512_S1x1024x128_1_0_384, k0_pay1 (actHi x2 x5) (k0_pay16 (w3 x8))⟩,
   ⟨Rect.unit (s := S2x1024x512) ![1, 0, 256] S1x1024x128.size inb_S2x1024x512_S1x1024x128_1_0_256, k0_pay15 (actHi x2 x5) (w2 x8)⟩,
   ⟨Rect.unit (s := S2x1024x512) ![1, 0, 128] S1x1024x128.size inb_S2x1024x512_S1x1024x128_1_0_128, k0_pay14 (actHi x2 x5) (w1 x8)⟩,
   ⟨Rect.unit (s := S2x1024x512) ![1, 0, 0] S1x1024x128.size inb_S2x1024x512_S1x1024x128_1_0_0, k0_pay13 (actHi x2 x5) (w0 x8)⟩,
   ⟨Rect.unit (s := S2x1024x512) ![0, 0, 384] S1x1024x128.size inb_S2x1024x512_S1x1024x128_0_0_384, k0_pay11 (actLo x2 x4) (w3 x8)⟩,
   ⟨Rect.unit (s := S2x1024x512) ![0, 0, 256] S1x1024x128.size inb_S2x1024x512_S1x1024x128_0_0_256, k0_pay10 (actLo x2 x4) (w2 x8)⟩,
   ⟨Rect.unit (s := S2x1024x512) ![0, 0, 128] S1x1024x128.size inb_S2x1024x512_S1x1024x128_0_0_128, k0_pay9 (k0_pay8 (ld x2 full2) (ld x4 fullU) (w1 x8))⟩,
   ⟨Rect.unit (s := S2x1024x512) ![0, 0, 0] S1x1024x128.size inb_S2x1024x512_S1x1024x128_0_0_0, k0_pay7 (ld x2 full2) (ld x4 fullU) (w0 x8)⟩]

/-- The gated block of the lower half, read back. -/
def gsLo : Vec F S1x1024x512 .bf16 := gsM.view.readCov (gated x2 x4 x5 x8)
  (Rect.unit (s := S2x1024x512) ![0, 0, 0] S1x1024x512.size inb_S2x1024x512_S1x1024x512_0_0_0).toLoadRect
/-- The gated block of the upper half, read back. -/
def gsHi : Vec F S1x1024x512 .bf16 := gsM.view.readCov (gated x2 x4 x5 x8)
  (Rect.unit (s := S2x1024x512) ![1, 0, 0] S1x1024x512.size inb_S2x1024x512_S1x1024x512_1_0_0).toLoadRect

/-- One step of the sum over the experts. -/
def step (acc : Vec F S1024x2048 .f32) : Vec F S1024x2048 .f32 :=
  k0_pay2 acc (gsLo x2 x4 x5 x8) (ld x6 fullV) (gsHi x2 x4 x5 x8) (ld x7 fullV)
end pieces

/-- The landed block, read back whole. -/
theorem landed (p : Vec F S1024x2048 .f32) :
    bufM.view.readCov (Val := Elt F) [⟨Rect.whole S1024x2048, p⟩] full2.toLoadRect = p := by
  unfold View.readCov
  rw [View.readAt_full]
  exact View.read_writes_full bufM.view bufM.view.junk (off := fun _ => 0) (fun a => (Nat.zero_add _).le) p []

variable (c : Dev nD) (i : grid0.Coords)
  (arg2 : Memref sig .tc .vmem S1024x2048 .bf16) (harg2 : arg2.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S512x2048 .bf16) (harg7 : arg7.IsWhole)
  (arg8 : Memref sig .tc .vmem S128x4x8x128 .i32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S1024x2048 .f32) (harg11 : arg11.IsWhole)
  (q2 q4 q5 q6 q7 q8 q9 q10 : PosShare TreeShare)
  (x2 : Vec F S1024x2048 .bf16) (x4 x5 : Vec F S2048x512 .bf16) (x6 x7 : Vec F S512x2048 .bf16)
  (x8 : Vec F S128x4x8x128 .i32) (x9 x10 : Vec F S1x2048 .f32)
  (H : Buf (Elt F) (hM.view.loc (c : Thread nD τ)))

/-- The operands' blocks, as held at a point. -/
def ins : sProp 𝕄 :=
  iprop(owns (c : Thread nD τ) arg2 q2 x2
        ∗ owns (c : Thread nD τ) arg4 q4 x4 ∗ owns (c : Thread nD τ) arg5 q5 x5
        ∗ owns (c : Thread nD τ) arg6 q6 x6 ∗ owns (c : Thread nD τ) arg7 q7 x7
        ∗ owns (c : Thread nD τ) arg8 q8 x8 ∗ owns (c : Thread nD τ) arg9 q9 x9 ∗ owns (c : Thread nD τ) arg10 q10 x10)

/-- Before a first step and after a last one: the landing buffer, the residual and the transfer's cell at rest. -/
def rest : sProp 𝕄 :=
  iprop((∃ f, bufM.view.loc (c : Thread nD τ) ↦[bufM.view.set]{fullShare} f)
    ∗ (hM.view.loc (c : Thread nD τ) ↦{fullShare} H)
    ∗ semVal ((c : Thread nD τ), SemLoc.dma 14) 0)

/-- Between the two: row block `b` of the residual under way into the landing buffer. -/
def flying (b : Fin 8) : sProp 𝕄 :=
  iprop((∃ f, Transfers.Flight countersEmb (c : Thread nD τ) (SemLoc.dma 14) () (View.dmaCredit bufM.view)
        iprop((bufM.view.loc (c : Thread nD τ) ↦[bufM.view.set]{fullShare}
             bufM.view.writes (Elt F) f [⟨Rect.whole S1024x2048, ReadAs.same.apply ((rowM b).view.read (Elt F) H)⟩])
          ∗ ((rowM b).view.loc (c : Thread nD τ) ↦[(rowM b).view.set]{fullShare} H)))
    ∗ ((rowM b).view.loc (c : Thread nD τ) ↦[Finset.univ \ (rowM b).view.set]{fullShare} H))

/-- A step in the middle adds its experts. -/
theorem run_mid (b : Fin 8) (h1 : ¬ k0_cond1 i = 1#1) (h2 : ¬ k0_cond2 i = 1#1)
    (x11 : Vec F S1024x2048 .f32) (W : Waits sig Unit) (K : PUnit → sProp 𝕄) :
    iprop(ins c arg2 arg4 arg5 arg6 arg7 arg8 arg9 arg10 q2 q4 q5 q6 q7 q8 q9 q10 x2 x4 x5 x6 x7 x8 x9 x10
        ∗ owns (c : Thread nD τ) arg11 fullShare x11
        ∗ (∃ f, gsM.view.loc (c : Thread nD τ) ↦{fullShare} f)
        ∗ owes (c : Thread nD τ) 0 W
        ∗ flying c H b
        ∗ ((ins c arg2 arg4 arg5 arg6 arg7 arg8 arg9 arg10 q2 q4 q5 q6 q7 q8 q9 q10 x2 x4 x5 x6 x7 x8 x9 x10
            ∗ owns (c : Thread nD τ) arg11 fullShare (step x2 x4 x5 x6 x7 x8 (ld x11 full2))
            ∗ (∃ f, gsM.view.loc (c : Thread nD τ) ↦{fullShare} f)
            ∗ (∃ W', owes (c : Thread nD τ) 0 W')
            ∗ flying c H b) -∗ K ⟨⟩))
      ⊢ wp frame (wpE (defs₀ (F := F)) Variants.none c none) Set.univ
          (cc0_peer_dense i arg2 harg2 hM (Memref.isWhole_whole _) arg4 harg4 arg5 harg5 arg6 harg6 arg7 harg7 arg8 harg8
            arg9 harg9 arg10 harg10 arg11 harg11 bufM (Memref.isWhole_whole _) cc0_scratch1 gsM (Memref.isWhole_whole _)) K := by
  rw [cc0_peer_dense_eq_skeleton]; unfold cc0_peer_dense_skel
  rw [k0_part1_eq_skeleton, k0_part2_eq_skeleton, k0_part3_eq_skeleton]
  unfold k0_part1_skel k0_part2_skel k0_part3_skel
  unfold ins flying owns
  iintro ⟨⟨⟨%f2, %e2, H2⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%f11, %e11, H11⟩, ⟨%fg, Hg⟩, HW, ⟨⟨%fb, Hf⟩, Hh⟩, Hk⟩
  sl_exec
  sl_step
  iapply Hk
  isplitl [H2 H4 H5 H6 H7 H8 H9 H10]
  · isplitl [H2]; · iexists _; isplitr; swap; · iexact H2
                    ipureintro; exact e2
    isplitl [H4]; · iexists _; isplitr; swap; · iexact H4
                    ipureintro; exact e4
    isplitl [H5]; · iexists _; isplitr; swap; · iexact H5
                    ipureintro; exact e5
    isplitl [H6]; · iexists _; isplitr; swap; · iexact H6
                    ipureintro; exact e6
    isplitl [H7]; · iexists _; isplitr; swap; · iexact H7
                    ipureintro; exact e7
    isplitl [H8]; · iexists _; isplitr; swap; · iexact H8
                    ipureintro; exact e8
    isplitl [H9]; · iexists _; isplitr; swap; · iexact H9
                    ipureintro; exact e9
    iexists _; isplitr; swap; · iexact H10
    ipureintro; exact e10
  isplitl [H11]
  · iexists _; isplitr; swap; · iexact H11
    ipureintro
    refine (View.read_writes_full _ _ _ _ _).trans ?_
    subst e2 e4 e5 e6 e7 e8 e9 e10 e11
    rfl
  isplitl [Hg]
  · iexists _; iexact Hg
  isplitl [HW]
  · iexists _; iexact HW
  isplitl [Hf]; · iexists _; iexact Hf
  iexact Hh

theorem off1_eq : k0_off1 i = rowOff (i 0) := by
  have h : (i 0).val < 8 := (i 0).isLt
  funext a
  fin_cases a
  · show (BitVec.ofNat 32 (i 0).val * 1024#32).toNat = 1024 * (i 0).val
    rw [BitVec.toNat_mul, BitVec.toNat_ofNat, BitVec.toNat_ofNat]; omega
  · rfl
/-- The program's own slice of the residual is the row block of the first grid coordinate. -/
@[sl_canon] theorem slice_off1 (h : k0_cond1 i = 1#1) :
    hM.slice (Rect.unit (s := S8192x2048) (k0_off1 i) S1024x2048.size (k0_off1_inb i h)) (fun _ => rfl) = rowM (i 0) :=
  Memref.slice_unit_congr _ (off1_eq i) _ _ _ _

/-- The first step sends for the residual block and starts the sum at zero. -/
theorem run_first (h1 : k0_cond1 i = 1#1) (h2 : ¬ k0_cond2 i = 1#1)
    (x11 : Vec F S1024x2048 .f32) (W : Waits sig Unit) (K : PUnit → sProp 𝕄) :
    iprop(ins c arg2 arg4 arg5 arg6 arg7 arg8 arg9 arg10 q2 q4 q5 q6 q7 q8 q9 q10 x2 x4 x5 x6 x7 x8 x9 x10
        ∗ owns (c : Thread nD τ) arg11 fullShare x11
        ∗ (∃ f, gsM.view.loc (c : Thread nD τ) ↦{fullShare} f)
        ∗ owes (c : Thread nD τ) 0 W
        ∗ rest c H
        ∗ ((ins c arg2 arg4 arg5 arg6 arg7 arg8 arg9 arg10 q2 q4 q5 q6 q7 q8 q9 q10 x2 x4 x5 x6 x7 x8 x9 x10
            ∗ owns (c : Thread nD τ) arg11 fullShare (step x2 x4 x5 x6 x7 x8 k0_pay4)
            ∗ (∃ f, gsM.view.loc (c : Thread nD τ) ↦{fullShare} f)
            ∗ (∃ W', owes (c : Thread nD τ) 0 W')
            ∗ flying c H (i 0)) -∗ K ⟨⟩))
      ⊢ wp frame (wpE (defs₀ (F := F)) Variants.none c none) Set.univ
          (cc0_peer_dense i arg2 harg2 hM (Memref.isWhole_whole _) arg4 harg4 arg5 harg5 arg6 harg6 arg7 harg7 arg8 harg8
            arg9 harg9 arg10 harg10 arg11 harg11 bufM (Memref.isWhole_whole _) cc0_scratch1 gsM (Memref.isWhole_whole _)) K := by
  rw [cc0_peer_dense_eq_skeleton]; unfold cc0_peer_dense_skel
  rw [k0_part1_eq_skeleton, k0_part2_eq_skeleton, k0_part3_eq_skeleton]
  unfold k0_part1_skel k0_part2_skel k0_part3_skel
  unfold ins rest flying owns
  iintro ⟨⟨⟨%f2, %e2, H2⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%f11, %e11, H11⟩, ⟨%fg, Hg⟩, HW, ⟨⟨%fb, Hb⟩, Hh, Hs⟩, Hk⟩
  sl_exec
  sl_step
  iapply Hk
  isplitl [H2 H4 H5 H6 H7 H8 H9 H10]
  · isplitl [H2]; · iexists _; isplitr; swap; · iexact H2
                    ipureintro; exact e2
    isplitl [H4]; · iexists _; isplitr; swap; · iexact H4
                    ipureintro; exact e4
    isplitl [H5]; · iexists _; isplitr; swap; · iexact H5
                    ipureintro; exact e5
    isplitl [H6]; · iexists _; isplitr; swap; · iexact H6
                    ipureintro; exact e6
    isplitl [H7]; · iexists _; isplitr; swap; · iexact H7
                    ipureintro; exact e7
    isplitl [H8]; · iexists _; isplitr; swap; · iexact H8
                    ipureintro; exact e8
    isplitl [H9]; · iexists _; isplitr; swap; · iexact H9
                    ipureintro; exact e9
    iexists _; isplitr; swap; · iexact H10
    ipureintro; exact e10
  isplitl [H11]
  · iexists _; isplitr; swap; · iexact H11
    ipureintro
    refine (View.read_writes_full _ _ _ _ _).trans ?_
    subst e2 e4 e5 e6 e7 e8 e9 e10 e11
    exact congrArg (fun a => step _ _ _ _ _ _ a) (View.readCov_full _ _ _ _ _)
  isplitl [Hg]
  · iexists _; iexact Hg
  isplitl [HW]
  · iexists _; iexact HW
  isplitl [Hs]; · iexists _; iexact Hs
  iexact Hh

/-- The last step waits for the residual block and normalises the sum. -/
theorem run_last (b : Fin 8) (h1 : ¬ k0_cond1 i = 1#1) (h2 : k0_cond2 i = 1#1)
    (x11 : Vec F S1024x2048 .f32) (W : Waits sig Unit) (K : PUnit → sProp 𝕄) :
    iprop(ins c arg2 arg4 arg5 arg6 arg7 arg8 arg9 arg10 q2 q4 q5 q6 q7 q8 q9 q10 x2 x4 x5 x6 x7 x8 x9 x10
        ∗ owns (c : Thread nD τ) arg11 fullShare x11
        ∗ (∃ f, gsM.view.loc (c : Thread nD τ) ↦{fullShare} f)
        ∗ owes (c : Thread nD τ) 0 W
        ∗ flying c H b
        ∗ ((ins c arg2 arg4 arg5 arg6 arg7 arg8 arg9 arg10 q2 q4 q5 q6 q7 q8 q9 q10 x2 x4 x5 x6 x7 x8 x9 x10
            ∗ owns (c : Thread nD τ) arg11 fullShare (k0_pay3 ((rowM b).view.read (Elt F) H) (step x2 x4 x5 x6 x7 x8 (ld x11 full2)) (ld x9 fullR) (ld x10 fullR))
            ∗ (∃ f, gsM.view.loc (c : Thread nD τ) ↦{fullShare} f)
            ∗ (∃ W', owes (c : Thread nD τ) 0 W')
            ∗ rest c H) -∗ K ⟨⟩))
      ⊢ wp frame (wpE (defs₀ (F := F)) Variants.none c none) Set.univ
          (cc0_peer_dense i arg2 harg2 hM (Memref.isWhole_whole _) arg4 harg4 arg5 harg5 arg6 harg6 arg7 harg7 arg8 harg8
            arg9 harg9 arg10 harg10 arg11 harg11 bufM (Memref.isWhole_whole _) cc0_scratch1 gsM (Memref.isWhole_whole _)) K := by
  rw [cc0_peer_dense_eq_skeleton]; unfold cc0_peer_dense_skel
  rw [k0_part1_eq_skeleton, k0_part2_eq_skeleton, k0_part3_eq_skeleton]
  unfold k0_part1_skel k0_part2_skel k0_part3_skel
  unfold ins flying rest owns
  iintro ⟨⟨⟨%f2, %e2, H2⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩⟩, ⟨%f11, %e11, H11⟩, ⟨%fg, Hg⟩, HW, ⟨⟨%fb, Hf⟩, Hh⟩, Hk⟩
  sl_exec
  sl_step
  iapply Hk
  isplitl [H2 H4 H5 H6 H7 H8 H9 H10]
  · isplitl [H2]; · iexists _; isplitr; swap; · iexact H2
                    ipureintro; exact e2
    isplitl [H4]; · iexists _; isplitr; swap; · iexact H4
                    ipureintro; exact e4
    isplitl [H5]; · iexists _; isplitr; swap; · iexact H5
                    ipureintro; exact e5
    isplitl [H6]; · iexists _; isplitr; swap; · iexact H6
                    ipureintro; exact e6
    isplitl [H7]; · iexists _; isplitr; swap; · iexact H7
                    ipureintro; exact e7
    isplitl [H8]; · iexists _; isplitr; swap; · iexact H8
                    ipureintro; exact e8
    isplitl [H9]; · iexists _; isplitr; swap; · iexact H9
                    ipureintro; exact e9
    iexists _; isplitr; swap; · iexact H10
    ipureintro; exact e10
  isplitl [H11]
  · iexists _; isplitr; swap; · iexact H11
    ipureintro
    refine (View.read_writes_full _ _ _ _ _).trans ?_
    subst e2 e4 e5 e6 e7 e8 e9 e10 e11
    exact congrArg₂ (fun a b => k0_pay3 a b (ld (arg9.view.read (Elt F) f9) fullR) (ld (arg10.view.read (Elt F) f10) fullR))
      (landed _) (View.readCov_full _ _ _ _ _)
  isplitl [Hg]
  · iexists _; iexact Hg
  isplitl [HW]
  · iexists _; iexact HW
  isplitl [Hf_dst]; · iexists _; iexact Hf_dst
  isplitl [Hh]; · iexact Hh
  iexact Hf

end Cert.KernelIdeal.Dense

end
-- ==== Proof.PeerFrame.lean ====
module

public import proofs.«01_k».proof.Proof.PeerRun

@[expose] public section

/-! The expert call over its grid: what the result's block holds after every point, the state carried between points (the
residual block under way, from a row block's first step to its last), and the run of the whole program. -/

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the blocks hold -/

def bHid (c : Dev nD) (t : Fin cfg0.N) : Vec F S1024x2048 .bf16 := iblk m c 0 t
def bUlo (c : Dev nD) (t : Fin cfg0.N) : Vec F S2048x512 .bf16 := iblk m c 1 t
def bUhi (c : Dev nD) (t : Fin cfg0.N) : Vec F S2048x512 .bf16 := iblk m c 2 t
def bVlo (c : Dev nD) (t : Fin cfg0.N) : Vec F S512x2048 .bf16 := iblk m c 3 t
def bVhi (c : Dev nD) (t : Fin cfg0.N) : Vec F S512x2048 .bf16 := iblk m c 4 t
def bWrd (c : Dev nD) (t : Fin cfg0.N) : Vec F S128x4x8x128 .i32 := iblk m c 5 t
def bGam (c : Dev nD) (t : Fin cfg0.N) : Vec F S1x2048 .f32 := iblk m c 6 t
def bBet (c : Dev nD) (t : Fin cfg0.N) : Vec F S1x2048 .f32 := iblk m c 7 t

/-- One point's step of the sum, on that point's blocks. -/
def stepAt (c : Dev nD) (t : Fin cfg0.N) (acc : Vec F S1024x2048 .f32) : Vec F S1024x2048 .f32 :=
  step (bHid m c t) (bUlo m c t) (bUhi m c t) (bVlo m c t) (bVhi m c t) (bWrd m c t) acc

/-- The sum over the experts of a row block so far, after point `n`. -/
def sumAt (c : Dev nD) : (n : ℕ) → n < cfg0.N → Vec F S1024x2048 .f32
  | 0, h => stepAt m c ⟨0, h⟩ k0_pay4
  | n + 1, h => if (n + 1) % 16 = 0 then stepAt m c ⟨n + 1, h⟩ k0_pay4
      else stepAt m c ⟨n + 1, h⟩ (ld (sumAt c n (Nat.lt_of_succ_lt h)) full2)

theorem sumAt_first (c : Dev nD) (t : Fin cfg0.N) (h : t.val % 16 = 0) : sumAt m c t.val t.isLt = stepAt m c t k0_pay4 := by
  obtain ⟨n, hn⟩ := t
  cases n with
  | zero => rfl
  | succ n => exact if_pos h
theorem sumAt_next (c : Dev nD) (t : Fin cfg0.N) (h : ¬ t.val % 16 = 0) :
    sumAt m c t.val t.isLt = stepAt m c t (ld (sumAt m c (t.val - 1) (Nat.lt_of_le_of_lt (Nat.sub_le _ _) t.isLt)) full2) := by
  obtain ⟨n, hn⟩ := t
  cases n with
  | zero => exact absurd rfl h
  | succ n => exact if_neg h

/-- The row block a point works on. -/
def rowOf (n : ℕ) : Fin 8 := ⟨n / 16 % 8, Nat.mod_lt _ (by decide)⟩

/-- The normalised row block. -/
def normAt (c : Dev nD) (t : Fin cfg0.N) : Vec F S1024x2048 .f32 :=
  k0_pay3 ((rowM (rowOf t.val)).view.read (Elt F) (V m c main_arg0)) (sumAt m c t.val t.isLt)
    (ld (bGam m c t) fullR) (ld (bBet m c t) fullR)

/-- What the result's block holds after the body at a point. -/
def outAt (c : Dev nD) (t : Fin cfg0.N) : Vec F S1024x2048 .f32 :=
  if t.val % 16 = 15 then normAt m c t else sumAt m c t.val t.isLt

/-! ## The points -/

theorem cond1_iff : ∀ t : Fin cfg0.N, k0_cond1 (grid0.coords t) = 1#1 ↔ t.val % 16 = 0 :=
  (by decide +kernel : ∀ t : Fin grid0.N, _)
theorem cond2_iff : ∀ t : Fin cfg0.N, k0_cond2 (grid0.coords t) = 1#1 ↔ t.val % 16 = 15 :=
  (by decide +kernel : ∀ t : Fin grid0.N, _)
theorem row_coord : ∀ t : Fin cfg0.N, (grid0.coords t 0 : Fin 8) = rowOf t.val :=
  fun t => Fin.ext ((by decide +kernel : ∀ t : Fin grid0.N, (grid0.coords t 0).val = t.val / 16 % 8) t)

/-! ## What is carried between the points -/

abbrev osem0 : Fin 1 → SemLoc sig := fun j => (![SemLoc.dma 14] : Fin 1 → SemLoc sig) j
theorem ownSemFacts0 : Pipeline.OwnSemFacts spec0 osem0 := by decide
def H0 : Finset (Ref sig .tc) := {main_arg0}
theorem H0_sub : H0 ⊆ Pipeline.restRefs sig spec0 := by decide

/-- Before point `n`: the gated buffer and the generator's register at anything; the residual's transfer at rest at a row
    block's first step, under way at its other steps. -/
def carried (c : Dev nD) (n : ℕ) : sProp 𝕄 :=
  iprop((∃ f, gsM.view.loc (c : Thread nD τ) ↦{fullShare} f) ∗ (∃ r, prngReg c r)
    ∗ (if n % 16 = 0 then rest c (V m c main_arg0) else flying c (V m c main_arg0) (rowOf n)))

theorem ownSems0_one (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 14) 0 := by
  rw [Pipeline.ownSems0_eq_of_list c osem0 [0] (by decide) (by decide)]; rfl
theorem hbm_one (c : Dev nD) :
    (bigSep H0 (fun b => ((c : Thread nD τ).loc b) ↦{fullShare} V m c b) : sProp 𝕄)
      = iprop(hM.view.loc (c : Thread nD τ) ↦{fullShare} V m c main_arg0) := by
  rw [BI.bigSep_eq_bigSepL_of_eq [main_arg0] (by decide) (by decide)]; rfl
theorem atRest_eq (c : Dev nD) :
    (Pipeline.ΦD osem0 spec0 H0 (V m) c : sProp 𝕄)
      = iprop(iprop((∃ f, bufM.view.loc (c : Thread nD τ) ↦{fullShare} f) ∗ (∃ f, gsM.view.loc (c : Thread nD τ) ↦{fullShare} f))
          ∗ (∃ r, prngReg c r) ∗ semVal ((c : Thread nD τ), SemLoc.dma 14) 0
          ∗ iprop(hM.view.loc (c : Thread nD τ) ↦{fullShare} V m c main_arg0)) := by
  rw [Pipeline.ΦD_eq, scopedRest0_eq, ownSems0_one, hbm_one]
theorem buf_set : bufM.view.set = Finset.univ := by simp

theorem carried_in (c : Dev nD) (n : ℕ) (h : n % 16 = 0) : Pipeline.ΦD osem0 spec0 H0 (V m) c ⊢ carried m c n := by
  rw [atRest_eq]; unfold carried rest; rw [if_pos h, buf_set]
  iintro ⟨⟨Hb, Hg⟩, Hp, Hs, Hh⟩
  isplitl [Hg]; · iexact Hg
  isplitl [Hp]; · iexact Hp
  isplitl [Hb]; · iexact Hb
  isplitl [Hh]; · iexact Hh
  iexact Hs
theorem carried_out (c : Dev nD) (n : ℕ) (h : n % 16 = 0) : carried m c n ⊢ Pipeline.ΦD osem0 spec0 H0 (V m) c := by
  rw [atRest_eq]; unfold carried rest; rw [if_pos h, buf_set]
  iintro ⟨Hg, Hp, Hb, Hh, Hs⟩
  isplitl [Hb Hg]
  · isplitl [Hb]; · iexact Hb
    iexact Hg
  isplitl [Hp]; · iexact Hp
  isplitl [Hs]; · iexact Hs
  iexact Hh

/-! ## The proof data and the body at every point -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := carried m c t.val
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outAt m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
/-- At a step after a row block's first, the result's block still holds the sum so far. -/
theorem before0_8 (c : Dev nD) (t : Fin cfg0.N) (h : ¬ t.val % 16 = 0) (d) :
    (dats m 0 c).before 8 t d = sumAt m c (t.val - 1) (Nat.lt_of_le_of_lt (Nat.sub_le _ _) t.isLt) := by
  have ht : t.val ≠ 0 := fun e => h (by rw [e])
  have hl : ¬ (t.val - 1) % 16 = 15 := by omega
  rw [(dats m 0 c).before_out_kept 8 rfl t ht
    (by rw [Bool.eq_false_iff]; intro e; exact hl ((flush0_8 _).mp e)) (fun _ => rfl) (fun _ _ => rfl) d, after0_8]
  unfold outAt
  rw [if_neg hl]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = carried m c (t.val + 1) from rfl, show (dats m 0 c).Φ t.castSucc = carried m c t.val from rfl]
  unfold Dat.owesAt Pipeline.owesWithin
  rw [show (dats m 0 c).owed t.castSucc = 0 from rfl, show (dats m 0 c).owed t.succ = 0 from rfl]
  rw [after0_0, after0_1, after0_2, after0_3, after0_4, after0_5, after0_6, after0_7, after0_8]
  simp only [before0_0, before0_1, before0_2, before0_3, before0_4, before0_5, before0_6, before0_7]
  unfold carried
  by_cases h0 : t.val % 16 = 0
  · have h15 : ¬ t.val % 16 = 15 := by omega
    have hn : ¬ (t.val + 1) % 16 = 0 := by omega
    have hr : rowOf (t.val + 1) = (grid0.coords t 0 : Fin 8) := by
      rw [row_coord]; unfold rowOf; ext; show (t.val + 1) / 16 % 8 = t.val / 16 % 8; omega
    rw [if_pos h0, if_neg hn, hr, show outAt m c t = _ from if_neg h15, sumAt_first m c t h0]
    unfold stepAt
    iintro ⟨⟨Hg, Hp, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) _ _ _ _ _ _ _ _ _ _ _ _ _ _ _ _ _ _ fullShare fullShare fullShare fullShare fullShare fullShare fullShare fullShare (bHid m c t) (bUlo m c t) (bUhi m c t) (bVlo m c t) (bVhi m c t) (bWrd m c t)
      (bGam m c t) (bBet m c t) (V m c main_arg0) ((cond1_iff t).mpr h0) (fun e => by have := (cond2_iff t).mp e; omega) _ W _)
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [Hg]; · iexact Hg
    isplitl [HW]; · iexact HW
    isplitl [Hr]; · iexact Hr
    iintro ⟨HI, H8, Hg, ⟨%W', HW⟩, Hr⟩
    isplitl [Hg Hp Hr]
    · isplitl [Hg]; · iexact Hg
      isplitl [Hp]; · iexact Hp
      iexact Hr
    isplitl [HW]
    · iexists W'; isplitr; · ipureintro; exact fun _ _ => Or.inl trivial
      iexact HW
    unfold ins
    icases HI with ⟨H0, H1, H2, H3, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  have hc1 : ¬ k0_cond1 (grid0.coords t) = 1#1 := fun e => h0 ((cond1_iff t).mp e)
  simp only [before0_8 m c t h0]
  by_cases h15 : t.val % 16 = 15
  · have hn : (t.val + 1) % 16 = 0 := by omega
    rw [if_neg h0, if_pos hn, show outAt m c t = _ from if_pos h15]
    unfold normAt
    rw [sumAt_next m c t h0]
    unfold stepAt
    iintro ⟨⟨Hg, Hp, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_last c (grid0.coords t) _ _ _ _ _ _ _ _ _ _ _ _ _ _ _ _ _ _ fullShare fullShare fullShare fullShare fullShare fullShare fullShare fullShare (bHid m c t) (bUlo m c t) (bUhi m c t) (bVlo m c t) (bVhi m c t) (bWrd m c t)
      (bGam m c t) (bBet m c t) (V m c main_arg0) (rowOf t.val) hc1 ((cond2_iff t).mpr h15) _ W _)
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [Hg]; · iexact Hg
    isplitl [HW]; · iexact HW
    isplitl [Hr]; · iexact Hr
    iintro ⟨HI, H8, Hg, ⟨%W', HW⟩, Hr⟩
    isplitl [Hg Hp Hr]
    · isplitl [Hg]; · iexact Hg
      isplitl [Hp]; · iexact Hp
      iexact Hr
    isplitl [HW]
    · iexists W'; isplitr; · ipureintro; exact fun _ _ => Or.inl trivial
      iexact HW
    unfold ins
    icases HI with ⟨H0, H1, H2, H3, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have hn : ¬ (t.val + 1) % 16 = 0 := by omega
    have hr : rowOf (t.val + 1) = rowOf t.val := by
      unfold rowOf; ext; show (t.val + 1) / 16 % 8 = t.val / 16 % 8; omega
    rw [if_neg h0, if_neg hn, hr, show outAt m c t = _ from if_neg h15, sumAt_next m c t h0]
    unfold stepAt
    iintro ⟨⟨Hg, Hp, Hr⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_mid c (grid0.coords t) _ _ _ _ _ _ _ _ _ _ _ _ _ _ _ _ _ _ fullShare fullShare fullShare fullShare fullShare fullShare fullShare fullShare (bHid m c t) (bUlo m c t) (bUhi m c t) (bVlo m c t) (bVhi m c t) (bWrd m c t)
      (bGam m c t) (bBet m c t) (V m c main_arg0) (rowOf t.val) hc1 (fun e => h15 ((cond2_iff t).mp e)) _ W _)
    isplitl [H0 H1 H2 H3 H4 H5 H6 H7]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    isplitl [Hg]; · iexact Hg
    isplitl [HW]; · iexact HW
    isplitl [Hr]; · iexact Hr
    iintro ⟨HI, H8, Hg, ⟨%W', HW⟩, Hr⟩
    isplitl [Hg Hp Hr]
    · isplitl [Hg]; · iexact Hg
      isplitl [Hp]; · iexact Hp
      iexact Hr
    isplitl [HW]
    · iexists W'; isplitr; · ipureintro; exact fun _ _ => Or.inl trivial
      iexact HW
    unfold ins
    icases HI with ⟨H0, H1, H2, H3, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

set_option maxHeartbeats 800000 in
theorem entry (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends with the windows' arrays as the proof data say, every other array as the call found it, and every counter at zero. -/
theorem run_main : θ_run defs (onTc (τ := τ) (main (F := F))) (s₀ m ρ)
    (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m c).loose) (hq := fun _ _ _ => rfl)
    (howed := fun _ _ => rfl) (V := V m) (hmain := entry m Variants.none) (hA := A_eq m)
    (hin := fun c => carried_in m c 0 rfl)
    (hout := fun c => carried_out m c 128 rfl)

/-- After every run: the result's array as the region left it, the arguments as launched. -/
theorem run_args : θ_run defs (onTc (τ := τ) (main (F := F))) ⟨m, fun _ => 0, ρ⟩ (fun r => (∀ c : Dev nD,
      r.2.mem ((c.tc : Thread nD τ).loc main_v7) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ H => ⟨fun c => have h := H.1 c; ⟨h.1 8,
      (h.2 main_arg0 (Pipeline.mem_restRefs_of main_arg0 (by decide) (by decide))).trans (V_main_arg0 m c),
      (h.2 main_arg1 (Pipeline.mem_restRefs_of main_arg1 (by decide) (by decide))).trans (V_main_arg1 m c),
      (h.2 main_arg2 (Pipeline.mem_restRefs_of main_arg2 (by decide) (by decide))).trans (V_main_arg2 m c),
      (h.2 main_arg3 (Pipeline.mem_restRefs_of main_arg3 (by decide) (by decide))).trans (V_main_arg3 m c),
      (h.2 main_arg4 (Pipeline.mem_restRefs_of main_arg4 (by decide) (by decide))).trans (V_main_arg4 m c),
      (h.2 main_arg5 (Pipeline.mem_restRefs_of main_arg5 (by decide) (by decide))).trans (V_main_arg5 m c)⟩, H.2⟩) (run_main m ρ)

/-- The same of the arguments alone. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => (h.1 c).2, h.2⟩) (run_args m ρ)

end Cert.KernelIdeal.Dense

end
-- ==== Proof.PeerPure.lean ====
module

public import proofs.«01_k».proof.Proof.PeerRun
public import Idealize.ShloMosaic.Lib.Pipeline.ValueKit

@[expose] public section

/-! The expert call's arithmetic over the extended reals: the two halves of a packed word, the gated blocks, one step of the
sum over the experts, each read at one index. -/

set_option maxRecDepth 16384

noncomputable section

namespace Cert.KernelIdeal.Dense

open Cert.KernelIdeal Cert.KernelIdeal.Gen
open Idealize.ShloMosaic Idealize.ShloMosaic.TcCoe
open Idealize.ShloMosaic.View (ld)
open scoped BigOperators

/-! ## The halves of a word -/

/-- A word shifted up by a half word is its low half over zeros; -/
theorem shift_eq (w : BitVec 32) : w <<< (16 : ℕ) = w.extractLsb' 0 16 ++ (0#16 : BitVec 16) := by
  apply BitVec.eq_of_toNat_eq
  rw [BitVec.toNat_shiftLeft, BitVec.toNat_append, BitVec.extractLsb'_toNat]
  simp only [Nat.shiftLeft_eq, Nat.shiftRight_zero, BitVec.toNat_ofNat, Nat.zero_mod, Nat.or_zero]
  omega
theorem mask_bit : ∀ i : Fin 32, (4294901760#32 : BitVec 32)[i.val] = decide (16 ≤ i.val) := by decide
/-- masked, it is its high half over zeros. -/
theorem mask_eq (w : BitVec 32) : w &&& 4294901760#32 = w.extractLsb' 16 16 ++ (0#16 : BitVec 16) := by
  ext i hi
  rw [BitVec.getElem_and, BitVec.getElem_append]
  rw [mask_bit ⟨i, hi⟩]
  by_cases h : i < 16
  · rw [dif_pos h]; simp; omega
  · rw [dif_neg h, BitVec.getElem_extractLsb', BitVec.getLsbD_eq_getElem (by omega)]
    simp only [decide_eq_true (show 16 ≤ i by omega), Bool.and_true]
    congr 1; omega

/-- The value of a bf16 pattern is the value of the f32 pattern it is the upper half of. -/
theorem ofBits_widen (b : BitVec 16) : Ideal.ofBits .f32 (b ++ (0#16 : BitVec 16)) = Ideal.ofBits .bf16 b := by
  have hn : (b ++ (0#16 : BitVec 16)).toNat = b.toNat * 2 ^ 16 := by
    rw [BitVec.toNat_append]
    simp only [Nat.shiftLeft_eq, BitVec.toNat_ofNat, Nat.zero_mod, Nat.or_zero]
  have hb := b.isLt
  have hs : (b ++ (0#16 : BitVec 16)).extractLsb' 31 1 = b.extractLsb' 15 1 := by
    apply BitVec.eq_of_toNat_eq
    rw [BitVec.extractLsb'_toNat, BitVec.extractLsb'_toNat, hn, Nat.shiftRight_eq_div_pow, Nat.shiftRight_eq_div_pow]
    omega
  have he : ((b ++ (0#16 : BitVec 16)).extractLsb' 23 8).toNat = (b.extractLsb' 7 8).toNat := by
    rw [BitVec.extractLsb'_toNat, BitVec.extractLsb'_toNat, hn, Nat.shiftRight_eq_div_pow, Nat.shiftRight_eq_div_pow]
    omega
  have hf : ((b ++ (0#16 : BitVec 16)).extractLsb' 0 23).toNat = (b.extractLsb' 0 7).toNat * 65536 := by
    rw [BitVec.extractLsb'_toNat, BitVec.extractLsb'_toNat, hn, Nat.shiftRight_zero, Nat.shiftRight_zero]
    omega
  show Ideal.ieee 8 23 _ = Ideal.ieee 8 7 _
  simp only [Ideal.ieee]
  rw [show (8 + 23 : ℕ) = 31 from rfl, show (8 + 7 : ℕ) = 15 from rfl, hs, he, hf]
  have hz : (b.extractLsb' 0 7).toNat * 65536 = 0 ↔ (b.extractLsb' 0 7).toNat = 0 := by omega
  simp only [hz]
  have h16 : ((2 : ℝ) ^ (16 : ℤ)) = 65536 := by norm_num
  split_ifs
  · rfl
  · rfl
  · rfl
  · congr 1
    rw [show (1 - (2 ^ (8 - 1) - 1) - ((7 : ℕ) : ℤ)) = (1 - (2 ^ (8 - 1) - 1) - ((23 : ℕ) : ℤ)) + 16 by norm_num,
      zpow_add₀ (by norm_num), h16]
    push_cast; ring
  · congr 1
    rw [show (1 - (2 ^ (8 - 1) - 1) - ((7 : ℕ) : ℤ)) = (1 - (2 ^ (8 - 1) - 1) - ((23 : ℕ) : ℤ)) + 16 by norm_num,
      zpow_add₀ (by norm_num), h16]
    push_cast; ring
  · congr 1
    rw [show (((b.extractLsb' 7 8).toNat : ℤ) - (2 ^ (8 - 1) - 1) - ((7 : ℕ) : ℤ)) = (((b.extractLsb' 7 8).toNat : ℤ) - (2 ^ (8 - 1) - 1) - ((23 : ℕ) : ℤ)) + 16 by push_cast; ring,
      zpow_add₀ (by norm_num), h16]
    push_cast; ring
  · congr 1
    rw [show (((b.extractLsb' 7 8).toNat : ℤ) - (2 ^ (8 - 1) - 1) - ((7 : ℕ) : ℤ)) = (((b.extractLsb' 7 8).toNat : ℤ) - (2 ^ (8 - 1) - 1) - ((23 : ℕ) : ℤ)) + 16 by push_cast; ring,
      zpow_add₀ (by norm_num), h16]
    push_cast; ring

/-- The gate in the low or the high half of a word. -/
def half (p : Fin 2) (w : BitVec 32) : EReal := Ideal.ofBits .bf16 (w.extractLsb' (p.val * 16) 16)

/-! ## The gated blocks -/

/-- The activation function, as it is computed. -/
def gelu (z : EReal) : EReal :=
  Ideal.ofBits .f32 0x3F000000#32 * z * (1 + Ideal.erf (z * Ideal.ofBits .f32 0x3F3504F3#32))

theorem act_lo (x : FVec Ideal S1024x2048 .bf16) (u : FVec Ideal S2048x512 .bf16) (r : Fin 1024) (k : Fin 512) :
    k0_pay6 (F := Ideal) x u (ix2 r k) = gelu (∑ d : Fin 2048, x (ix2 r d) * u (ix2 d k)) := by
  pointwise [k0_pay6, k0_pay5, gelu]; rfl

theorem act_hi (x : FVec Ideal S1024x2048 .bf16) (u : FVec Ideal S2048x512 .bf16) (r : Fin 1024) (k : Fin 512) :
    k0_pay12 (F := Ideal) (k0_pay5 x) u (ix2 r k) = gelu (∑ d : Fin 2048, x (ix2 r d) * u (ix2 d k)) := by
  pointwise [k0_pay5, k0_pay12, gelu]; rfl

theorem step_pay (acc : FVec Ideal S1024x2048 .f32) (g0 g1 : FVec Ideal S1x1024x512 .bf16) (v0 v1 : FVec Ideal S512x2048 .bf16)
    (r : Fin 1024) (n : Fin 2048) :
    k0_pay2 (F := Ideal) acc g0 v0 g1 v1 (ix2 r n) = acc (ix2 r n)
      + ((∑ k : Fin 512, g0 (ix3 0 r k) * v0 (ix2 k n)) + ∑ k : Fin 512, g1 (ix3 0 r k) * v1 (ix2 k n)) := by
  pointwise [k0_pay2]

section
variable (x2 : FVec Ideal S1024x2048 .bf16) (x4 x5 : FVec Ideal S2048x512 .bf16) (x6 x7 : FVec Ideal S512x2048 .bf16)
    (x8 : IVec S128x4x8x128 32)

/-- A gated element: the gate of a row for an expert, times the expert's activation on the row. -/
def gate (p : Fin 2) (u : FVec Ideal S2048x512 .bf16) (r : Fin 1024) (k : Fin 512) : EReal :=
  half p (x8 (ix4 ⟨r.val / 8, by omega⟩ ⟨k.val / 128, by omega⟩ ⟨r.val % 8, by omega⟩ ⟨k.val % 128, by omega⟩))
    * gelu (∑ d : Fin 2048, x2 (ix2 r d) * u (ix2 d k))

theorem gsLo_apply (r : Fin 1024) (k : Fin 512) :
    gsLo (F := Ideal) x2 x4 x5 x8 (ix3 0 r k) = gate x2 x8 0 x4 r k := by
  unfold gsLo gated
  rw [View.readCov_eq_canon']
  have e : (Rect.unit (s := S2x1024x512) ![0, 0, 0] S1x1024x512.size inb_S2x1024x512_S1x1024x512_0_0_0).toLoadRect.idx (ix3 0 r k)
      = (ix3 0 r k : S2x1024x512.Idx) := by
    idx_ext
  dsimp only
  rw [e]
  clear e
  canon_tiles y h
  case piece0 => exfalso; idx_vars y; have e0 : (0 : ℕ) = 1 + y0.val := h0; omega
  case piece1 => exfalso; idx_vars y; have e0 : (0 : ℕ) = 1 + y0.val := h0; omega
  case piece2 => exfalso; idx_vars y; have e0 : (0 : ℕ) = 1 + y0.val := h0; omega
  case piece3 => exfalso; idx_vars y; have e0 : (0 : ℕ) = 1 + y0.val := h0; omega
  case piece4 =>
    idx_vars y
    obtain rfl : r = y1 := Fin.ext (by omega)
    obtain rfl : k = ⟨384 + y2.val, Nat.lt_of_lt_of_le (Nat.add_lt_add_left y2.isLt 384) (by decide)⟩ := Fin.ext (by omega)
    pointwise [k0_pay11, w3, actLo, act_lo, gate, half]
    refine Ideal.mul_congr (congrArg (fun i => Ideal.ofBits .bf16 (BitVec.extractLsb' 0 16 (x8 i))) ?_) rfl
    idx_ext
  case piece5 =>
    idx_vars y
    obtain rfl : r = y1 := Fin.ext (by omega)
    obtain rfl : k = ⟨256 + y2.val, Nat.lt_of_lt_of_le (Nat.add_lt_add_left y2.isLt 256) (by decide)⟩ := Fin.ext (by omega)
    pointwise [k0_pay10, w2, actLo, act_lo, gate, half]
    refine Ideal.mul_congr (congrArg (fun i => Ideal.ofBits .bf16 (BitVec.extractLsb' 0 16 (x8 i))) ?_) rfl
    idx_ext
  case piece6 =>
    idx_vars y
    obtain rfl : r = y1 := Fin.ext (by omega)
    obtain rfl : k = ⟨128 + y2.val, Nat.lt_of_lt_of_le (Nat.add_lt_add_left y2.isLt 128) (by decide)⟩ := Fin.ext (by omega)
    pointwise [k0_pay9, k0_pay8, w1, act_lo, gate, half]
    refine Ideal.mul_congr (congrArg (fun i => Ideal.ofBits .bf16 (BitVec.extractLsb' 0 16 (x8 i))) ?_) rfl
    idx_ext
  case piece7 =>
    idx_vars y
    obtain rfl : r = y1 := Fin.ext (by omega)
    obtain rfl : k = ⟨y2.val, Nat.lt_of_lt_of_le y2.isLt (by decide)⟩ := Fin.ext (by omega)
    pointwise [k0_pay7, w0, act_lo, gate, half]
    refine Ideal.mul_congr (congrArg (fun i => Ideal.ofBits .bf16 (BitVec.extractLsb' 0 16 (x8 i))) ?_) rfl
    idx_ext

theorem gsHi_apply (r : Fin 1024) (k : Fin 512) :
    gsHi (F := Ideal) x2 x4 x5 x8 (ix3 0 r k) = gate x2 x8 1 x5 r k := by
  unfold gsHi gated
  rw [View.readCov_eq_canon']
  have e : (Rect.unit (s := S2x1024x512) ![1, 0, 0] S1x1024x512.size inb_S2x1024x512_S1x1024x512_1_0_0).toLoadRect.idx (ix3 0 r k)
      = (ix3 1 r k : S2x1024x512.Idx) := by
    idx_ext
  dsimp only
  rw [e]
  clear e
  canon_tiles y h
  case piece0 =>
    idx_vars y
    obtain rfl : r = y1 := Fin.ext (by omega)
    obtain rfl : k = ⟨384 + y2.val, Nat.lt_of_lt_of_le (Nat.add_lt_add_left y2.isLt 384) (by decide)⟩ := Fin.ext (by omega)
    pointwise [k0_pay1, k0_pay16, w3, actHi, act_hi, gate, half]
    refine Ideal.mul_congr (congrArg (fun i => Ideal.ofBits .bf16 (BitVec.extractLsb' 16 16 (x8 i))) ?_) rfl
    idx_ext
  case piece1 =>
    idx_vars y
    obtain rfl : r = y1 := Fin.ext (by omega)
    obtain rfl : k = ⟨256 + y2.val, Nat.lt_of_lt_of_le (Nat.add_lt_add_left y2.isLt 256) (by decide)⟩ := Fin.ext (by omega)
    pointwise [k0_pay15, w2, actHi, act_hi, gate, half]
    refine Ideal.mul_congr (congrArg (fun i => Ideal.ofBits .bf16 (BitVec.extractLsb' 16 16 (x8 i))) ?_) rfl
    idx_ext
  case piece2 =>
    idx_vars y
    obtain rfl : r = y1 := Fin.ext (by omega)
    obtain rfl : k = ⟨128 + y2.val, Nat.lt_of_lt_of_le (Nat.add_lt_add_left y2.isLt 128) (by decide)⟩ := Fin.ext (by omega)
    pointwise [k0_pay14, w1, actHi, act_hi, gate, half]
    refine Ideal.mul_congr (congrArg (fun i => Ideal.ofBits .bf16 (BitVec.extractLsb' 16 16 (x8 i))) ?_) rfl
    idx_ext
  case piece3 =>
    idx_vars y
    obtain rfl : r = y1 := Fin.ext (by omega)
    obtain rfl : k = ⟨y2.val, Nat.lt_of_lt_of_le y2.isLt (by decide)⟩ := Fin.ext (by omega)
    pointwise [k0_pay13, w0, actHi, act_hi, gate, half]
    refine Ideal.mul_congr (congrArg (fun i => Ideal.ofBits .bf16 (BitVec.extractLsb' 16 16 (x8 i))) ?_) rfl
    idx_ext
  case piece4 => exfalso; idx_vars y; have e0 : (1 : ℕ) = y0.val := h0; omega
  case piece5 => exfalso; idx_vars y; have e0 : (1 : ℕ) = y0.val := h0; omega
  case piece6 => exfalso; idx_vars y; have e0 : (1 : ℕ) = y0.val := h0; omega
  case piece7 => exfalso; idx_vars y; have e0 : (1 : ℕ) = y0.val := h0; omega

/-- One step of the sum, read at one element. -/
theorem step_apply (acc : FVec Ideal S1024x2048 .f32) (r : Fin 1024) (n : Fin 2048) :
    step (F := Ideal) x2 x4 x5 x6 x7 x8 acc (ix2 r n) = acc (ix2 r n)
      + ((∑ k : Fin 512, gate x2 x8 0 x4 r k * x6 (ix2 k n)) + ∑ k : Fin 512, gate x2 x8 1 x5 r k * x7 (ix2 k n)) := by
  unfold step
  rw [step_pay]
  simp only [gsLo_apply, gsHi_apply]
  pointwise
end

end Cert.KernelIdeal.Dense
-- ==== Proof.PeerValue.lean ====
module

public import proofs.«01_k».proof.Proof.PeerFrame
public import proofs.«01_k».proof.Proof.PeerPure

@[expose] public section

/-! The expert call's sum over the experts, as one sum over all of them. -/

set_option maxRecDepth 16384

noncomputable section

namespace Cert.KernelIdeal.Dense

open Cert.KernelIdeal Cert.KernelIdeal.Gen
open Idealize.ShloMosaic Idealize.ShloMosaic.TcCoe Idealize.SL.Sem
open Idealize.ShloMosaic.Pipeline (Dat)
open Idealize.ShloMosaic.View (ld)
open scoped BigOperators

variable (m : (ℓ : Loc nD τ sig) → Buf (Elt Ideal) ℓ)

theorem idx : ∀ t : Fin cfg0.N, win0_0.index t = ![t.val / 16, 0] ∧ win0_1.index t = ![0, t.val % 16]
    ∧ win0_2.index t = ![0, t.val % 16 + 16] ∧ win0_3.index t = ![t.val % 16, 0] ∧ win0_4.index t = ![t.val % 16 + 16, 0]
    ∧ win0_5.index t = ![t.val / 16, t.val % 16, 0, 0] ∧ win0_6.index t = ![0, 0] ∧ win0_7.index t = ![0, 0]
    ∧ win0_8.index t = ![t.val / 16, 0] ∧ t.val < 128 :=
  (by decide +kernel : ∀ t : Fin grid0.N, _)

/-- The hidden state, the expert tables, the packed gates. -/
abbrev hid (c : Dev nD) : FVec Ideal S8192x2048 .f32 := m ((c.tc : Thread nD τ).loc main_arg0)
abbrev tabU (c : Dev nD) : FVec Ideal S16384x2048 .f32 := m ((c.tc : Thread nD τ).loc main_arg1)
abbrev tabV (c : Dev nD) : FVec Ideal S16384x2048 .f32 := m ((c.tc : Thread nD τ).loc main_arg2)
abbrev wrd (c : Dev nD) : IVec S1024x512x128 32 := m ((c.tc : Thread nD τ).loc main_arg3)

theorem hid_at (c : Dev nD) (t : Fin cfg0.N) (r : Fin 1024) (d : Fin 2048) (R : Fin 8192) (hR : R.val = t.val / 16 * 1024 + r.val) :
    bHid m c t (ix2 r d) = hid m c (ix2 R d) := by
  unfold bHid
  blk_point [iblk, idx t]

theorem ulo_at (c : Dev nD) (t : Fin cfg0.N) (d : Fin 2048) (k : Fin 512) (e : Fin 16384) (he : e.val = t.val % 16 * 512 + k.val) :
    bUlo m c t (ix2 d k) = tabU m c (ix2 e d) := by
  unfold bUlo
  blk_point [iblk, idx t]
theorem uhi_at (c : Dev nD) (t : Fin cfg0.N) (d : Fin 2048) (k : Fin 512) (e : Fin 16384) (he : e.val = 8192 + (t.val % 16 * 512 + k.val)) :
    bUhi m c t (ix2 d k) = tabU m c (ix2 e d) := by
  unfold bUhi
  blk_point [iblk, idx t]
theorem vlo_at (c : Dev nD) (t : Fin cfg0.N) (n : Fin 2048) (k : Fin 512) (e : Fin 16384) (he : e.val = t.val % 16 * 512 + k.val) :
    bVlo m c t (ix2 k n) = tabV m c (ix2 e n) := by
  unfold bVlo
  blk_point [iblk, idx t]
theorem vhi_at (c : Dev nD) (t : Fin cfg0.N) (n : Fin 2048) (k : Fin 512) (e : Fin 16384) (he : e.val = 8192 + (t.val % 16 * 512 + k.val)) :
    bVhi m c t (ix2 k n) = tabV m c (ix2 e n) := by
  unfold bVhi
  blk_point [iblk, idx t]
theorem wrd_at (c : Dev nD) (t : Fin cfg0.N) (a : Fin 128) (b : Fin 4) (s : Fin 8) (l : Fin 128) (A : Fin 1024) (B : Fin 512)
    (hA : A.val = t.val / 16 * 128 + a.val) (hB : B.val = (t.val % 16 * 4 + b.val) * 8 + s.val) :
    bWrd m c t (ix4 a b s l) = wrd m c (ix3 A B l) := by
  unfold bWrd
  blk_point [iblk, idx t]
theorem gam_at (c : Dev nD) (t : Fin cfg0.N) (n : Fin 2048) :
    bGam m c t (ix2 0 n) = (show FVec Ideal S2048 .f32 from m ((c.tc : Thread nD τ).loc main_arg4)) (ix1 n) := by
  unfold bGam
  blk_point [iblk, idx t]
theorem bet_at (c : Dev nD) (t : Fin cfg0.N) (n : Fin 2048) :
    bBet m c t (ix2 0 n) = (show FVec Ideal S2048 .f32 from m ((c.tc : Thread nD τ).loc main_arg5)) (ix1 n) := by
  unfold bBet
  blk_point [iblk, idx t]
theorem res_at (c : Dev nD) (t : Fin cfg0.N) (r : Fin 1024) (n : Fin 2048) (R : Fin 8192) (hR : R.val = t.val / 16 * 1024 + r.val) :
    (rowM (rowOf t.val)).view.read (Elt Ideal) (V m c main_arg0) (ix2 r n) = hid m c (ix2 R n) := by
  have e : (Rect.unit (s := S8192x2048) (rowOff (rowOf t.val)) S1024x2048.size (rowOff_inb (rowOf t.val))).idx (ix2 r n)
      = (ix2 R n : S8192x2048.Idx) := by
    have ht : t.val < 128 := (idx t).2.2.2.2.2.2.2.2.2
    funext a
    apply Fin.ext
    fin_cases a
    · show 1024 * (t.val / 16 % 8) + 1 * r.val = R.val
      omega
    · show 0 + 1 * n.val = n.val
      omega
  show hid m c ((Rect.unit (s := S8192x2048) (rowOff (rowOf t.val)) S1024x2048.size (rowOff_inb (rowOf t.val))).idx (ix2 r n)) = _
  rw [e]

end Cert.KernelIdeal.Dense
-- ==== Proof.PeerRef.lean ====
module

public import proofs.«01_k».proof.Proof.Gen.ReferenceIdeal.Run
public import proofs.«01_k».proof.Proof.PeerPure

@[expose] public section

/-! The reference's result, read at one element. -/

set_option maxRecDepth 16384

noncomputable section

namespace Cert.ReferenceIdeal.Dense

open Cert.ReferenceIdeal
open Idealize.ShloMosaic Idealize.ShloMosaic.TcCoe Idealize.SL.Sem
open scoped BigOperators

/-- The packed gates by token and expert pair. -/
def words (w : IVec S1024x512x128 32) : IVec S8192x8192 32 :=
  shapeCast _ (transpose S1024x8x64x128 [0, 2, 1, 3] (shapeCast _ w Gen.shapeCasts_S1024x512x128_S1024x64x8x128) Gen.transposes_S1024x64x8x128_S1024x8x64x128_0_2_1_3) Gen.shapeCasts_S1024x8x64x128_S8192x8192
/-- The gates of the lower half of the experts. -/
def low (w : IVec S1024x512x128 32) : FVec Ideal S8192x8192 .f32 :=
  bitcastToFloat (F := Ideal) .f32 (Host.shli (words w) (broadcastInDim S8192x8192 ![] Gen.bcast_S_S8192x8192 (constantI S_ 32 16#32)))
/-- The gates of the upper half of the experts. -/
def high (w : IVec S1024x512x128 32) : FVec Ideal S8192x8192 .f32 :=
  bitcastToFloat (F := Ideal) .f32 (andi (words w) (broadcastInDim S8192x8192 ![] Gen.bcast_S_S8192x8192 (constantI S_ 32 4294901760#32)))
/-- All gates. -/
def gates (w : IVec S1024x512x128 32) : FVec Ideal S8192x16384 .f32 :=
  concatenate S8192x16384 1 [⟨S8192x8192, low w⟩, ⟨S8192x8192, high w⟩] Gen.concatenates_S8192x8192_S8192x8192_S8192x16384_d1
/-- All activations. -/
def acts (h : FVec Ideal S8192x2048 .f32) (u : FVec Ideal S16384x2048 .f32) : FVec Ideal S8192x16384 .f32 :=
  mulf (mulf (broadcastInDim S8192x16384 ![] Gen.bcast_S_S8192x16384 (constant S_ .f32 0x3F000000#32)) (Host.dotGeneral dot_S8192x2048_S16384x2048_S8192x16384_1_1_0_0_n_n none h u)) (Host.erfc (mulf (Host.negf (Host.dotGeneral dot_S8192x2048_S16384x2048_S8192x16384_1_1_0_0_n_n none h u)) (broadcastInDim S8192x16384 ![] Gen.bcast_S_S8192x16384 (constant S_ .f32 0x3F3504F3#32))))
/-- The hidden state with the expert layer's result added. -/
def pre (h : FVec Ideal S8192x2048 .f32) (u v : FVec Ideal S16384x2048 .f32) (w : IVec S1024x512x128 32) : FVec Ideal S8192x2048 .f32 :=
  addf (mulf (broadcastInDim S8192x2048 ![] Gen.bcast_S_S8192x2048 (constant S_ .f32 0x3F9837F0#32)) h) (Host.dotGeneral dot_S8192x16384_S16384x2048_S8192x2048_1_0_0_1_n_n none (mulf (gates w) (acts h u)) v)

theorem words_apply (w : IVec S1024x512x128 32) (t e : Fin 8192) :
    words w (ix2 t e) = w (ix3 ⟨t.val / 8, by omega⟩ ⟨e.val / 128 * 8 + t.val % 8, by omega⟩ ⟨e.val % 128, by omega⟩) := by
  pointwise [words]

open Cert.KernelIdeal.Dense (half gelu shift_eq mask_eq ofBits_widen)

theorem low_apply (w : IVec S1024x512x128 32) (i : S8192x8192.Idx) : low w i = half 0 (words w i) := by
  have e : low w i = Ideal.ofBits .f32 (words w i <<< (16 : ℕ)) := rfl
  rw [e, shift_eq, ofBits_widen]; rfl
theorem high_apply (w : IVec S1024x512x128 32) (i : S8192x8192.Idx) : high w i = half 1 (words w i) := by
  have e : high w i = Ideal.ofBits .f32 (words w i &&& 4294901760#32) := rfl
  rw [e, mask_eq, ofBits_widen]; rfl

theorem gates_low (w : IVec S1024x512x128 32) (t : Fin 8192) (e : Fin 16384) (he : e.val < 8192) :
    gates w (ix2 t e) = half 0 (w (ix3 ⟨t.val / 8, by omega⟩ ⟨e.val / 128 * 8 + t.val % 8, by omega⟩ ⟨e.val % 128, by omega⟩)) := by
  pointwise [gates]
  rw [dif_pos he, low_apply, words_apply]
theorem gates_high (w : IVec S1024x512x128 32) (t : Fin 8192) (e : Fin 16384) (he : ¬ e.val < 8192) :
    gates w (ix2 t e) = half 1 (w (ix3 ⟨t.val / 8, by omega⟩ ⟨(e.val - 8192) / 128 * 8 + t.val % 8, by omega⟩ ⟨(e.val - 8192) % 128, by omega⟩)) := by
  pointwise [gates]
  rw [dif_neg he, high_apply, words_apply]

theorem acts_apply (h : FVec Ideal S8192x2048 .f32) (u : FVec Ideal S16384x2048 .f32) (t : Fin 8192) (e : Fin 16384) :
    acts h u (ix2 t e) = gelu (∑ d : Fin 2048, h (ix2 t d) * u (ix2 e d)) := by
  pointwise [acts, gelu]
  rw [EReal.neg_mul, Ideal.erfc_neg]

theorem pre_apply (h : FVec Ideal S8192x2048 .f32) (u v : FVec Ideal S16384x2048 .f32) (w : IVec S1024x512x128 32)
    (t : Fin 8192) (n : Fin 2048) : pre h u v w (ix2 t n)
      = Ideal.ofBits .f32 0x3F9837F0#32 * h (ix2 t n) + ∑ e : Fin 16384, gates w (ix2 t e) * acts h u (ix2 t e) * v (ix2 e n) := by
  pointwise [pre]

/-- The rows' means. -/
def mean (x : FVec Ideal S8192x2048 .f32) : FVec Ideal S8192x1 .f32 :=
  Host.divf (broadcastInDim S8192x1 ![0] Gen.bcast_S8192_S8192x1_0 (Host.reduceAdd x (constant S_ .f32 0x00000000#32) Gen.reducesTo_S8192x2048_S8192_d1 Gen.h_S_)) (broadcastInDim S8192x1 ![] Gen.bcast_S_S8192x1 (constant S_ .f32 0x45000000#32))
/-- The rows less their means. -/
def centred (x : FVec Ideal S8192x2048 .f32) : FVec Ideal S8192x2048 .f32 :=
  subf x (broadcastInDim S8192x2048 ![0, 1] Gen.bcast_S8192x1_S8192x2048_0_1 (mean x))
/-- The row normalisation, with its scale and shift. -/
def norm (x : FVec Ideal S8192x2048 .f32) (g b : FVec Ideal S2048 .f32) : FVec Ideal S8192x2048 .f32 :=
  addf (mulf (mulf (centred x) (broadcastInDim S8192x2048 ![0, 1] Gen.bcast_S8192x1_S8192x2048_0_1 (Host.rsqrt (addf (mean (mulf (centred x) (centred x))) (broadcastInDim S8192x1 ![] Gen.bcast_S_S8192x1 (constant S_ .f32 0x3727C5AC#32))))))
    (broadcastInDim S8192x2048 ![0, 1] Gen.bcast_S1x2048_S8192x2048_0_1 (broadcastInDim S1x2048 ![1] Gen.bcast_S2048_S1x2048_1 g)))
    (broadcastInDim S8192x2048 ![0, 1] Gen.bcast_S1x2048_S8192x2048_0_1 (broadcastInDim S1x2048 ![1] Gen.bcast_S2048_S1x2048_1 b))

theorem res_eq (m : (ℓ : Loc nD τ sig) → Buf (Elt Ideal) ℓ) (c : Dev nD) :
    Value.res_main_v46 m c = norm (pre (m ((c.tc : Thread nD τ).loc main_arg0)) (m ((c.tc : Thread nD τ).loc main_arg1))
      (m ((c.tc : Thread nD τ).loc main_arg2)) (m ((c.tc : Thread nD τ).loc main_arg3)))
      (m ((c.tc : Thread nD τ).loc main_arg4)) (m ((c.tc : Thread nD τ).loc main_arg5)) := rfl

/-- A row's element normalised: the row less its mean, over the root of its variance. -/
def rowNorm (x : Fin 2048 → EReal) (g b : EReal) (n : Fin 2048) : EReal :=
  (x n - Ideal.div (∑ k : Fin 2048, x k) (Ideal.ofBits .f32 0x45000000#32))
    * Ideal.rsqrt (Ideal.div (∑ k : Fin 2048, (x k - Ideal.div (∑ k : Fin 2048, x k) (Ideal.ofBits .f32 0x45000000#32))
        * (x k - Ideal.div (∑ k : Fin 2048, x k) (Ideal.ofBits .f32 0x45000000#32))) (Ideal.ofBits .f32 0x45000000#32)
      + Ideal.ofBits .f32 0x3727C5AC#32) * g + b

theorem norm_apply (x : FVec Ideal S8192x2048 .f32) (g b : FVec Ideal S2048 .f32) (t : Fin 8192) (n : Fin 2048) :
    norm x g b (ix2 t n) = rowNorm (fun k => x (ix2 t k)) (g (ix1 n)) (b (ix1 n)) n := by
  pointwise [norm, mean, centred, rowNorm]

open Cert.KernelIdeal Cert.KernelIdeal.Gen in
theorem norm_pay (h acc : FVec Ideal Cert.KernelIdeal.S1024x2048 .f32) (g b : FVec Ideal Cert.KernelIdeal.S1x2048 .f32) (r : Fin 1024) (n : Fin 2048) :
    k0_pay3 (F := Ideal) h acc g b (ix2 r n)
      = rowNorm (fun k => Ideal.ofBits .f32 0x3F9837F0#32 * h (ix2 r k) + acc (ix2 r k)) (g (ix2 0 n)) (b (ix2 0 n)) n := by
  pointwise [k0_pay3, rowNorm]
end Cert.ReferenceIdeal.Dense
-- ==== Proof.PeerSum.lean ====
module

public import proofs.«01_k».proof.Proof.PeerValue
public import proofs.«01_k».proof.Proof.PeerRef

@[expose] public section

/-! The expert call's result is the reference's. -/

set_option maxRecDepth 16384

noncomputable section

namespace Cert.KernelIdeal.Dense

open Cert.KernelIdeal Cert.KernelIdeal.Gen
open Idealize.ShloMosaic Idealize.ShloMosaic.TcCoe Idealize.SL.Sem
open Idealize.ShloMosaic.Pipeline (Dat)
open Idealize.ShloMosaic.View (ld)
open scoped BigOperators

variable (m : (ℓ : Loc nD τ sig) → Buf (Elt Ideal) ℓ)

/-- What expert `e` adds to an element of token `T`. -/
def part (c : Dev nD) (T : Fin 8192) (n : Fin 2048) (e : Fin 16384) : EReal :=
  ReferenceIdeal.Dense.gates (wrd m c) (ix2 T e) * ReferenceIdeal.Dense.acts (hid m c) (tabU m c) (ix2 T e) * tabV m c (ix2 e n)

theorem part_low (c : Dev nD) (t : Fin cfg0.N) (r : Fin 1024) (n : Fin 2048) (k : Fin 512) (T : Fin 8192) (e : Fin 16384)
    (hT : T.val = t.val / 16 * 1024 + r.val) (he : e.val = t.val % 16 * 512 + k.val) :
    gate (bHid m c t) (bWrd m c t) 0 (bUlo m c t) r k * bVlo m c t (ix2 k n) = part m c T n e := by
  unfold gate part
  rw [ReferenceIdeal.Dense.gates_low _ T e (by omega), ReferenceIdeal.Dense.acts_apply, vlo_at m c t n k e he,
    wrd_at m c t _ _ _ _ ⟨T.val / 8, by omega⟩ ⟨e.val / 128 * 8 + T.val % 8, by omega⟩ (by simp only []; omega) (by simp only []; omega)]
  have ee : (⟨k.val % 128, by omega⟩ : Fin 128) = ⟨e.val % 128, by omega⟩ := Fin.ext (by simp only []; omega)
  rw [ee]
  simp only [hid_at m c t r _ T hT, ulo_at m c t _ k e he]

theorem part_high (c : Dev nD) (t : Fin cfg0.N) (r : Fin 1024) (n : Fin 2048) (k : Fin 512) (T : Fin 8192) (e : Fin 16384)
    (hT : T.val = t.val / 16 * 1024 + r.val) (he : e.val = 8192 + (t.val % 16 * 512 + k.val)) :
    gate (bHid m c t) (bWrd m c t) 1 (bUhi m c t) r k * bVhi m c t (ix2 k n) = part m c T n e := by
  unfold gate part
  rw [ReferenceIdeal.Dense.gates_high _ T e (by omega), ReferenceIdeal.Dense.acts_apply, vhi_at m c t n k e he,
    wrd_at m c t _ _ _ _ ⟨T.val / 8, by omega⟩ ⟨(e.val - 8192) / 128 * 8 + T.val % 8, by omega⟩ (by simp only []; omega) (by simp only []; omega)]
  have ee : (⟨k.val % 128, by omega⟩ : Fin 128) = ⟨(e.val - 8192) % 128, by omega⟩ := Fin.ext (by simp only []; omega)
  rw [ee]
  simp only [hid_at m c t r _ T hT, uhi_at m c t _ k e he]

/-- What one point adds. -/
def added (c : Dev nD) (t : Fin cfg0.N) (y : S1024x2048.Idx) : EReal :=
  (∑ k : Fin 512, gate (bHid m c t) (bWrd m c t) 0 (bUlo m c t) (y 0) k * bVlo m c t (ix2 k (y 1)))
    + ∑ k : Fin 512, gate (bHid m c t) (bWrd m c t) 1 (bUhi m c t) (y 0) k * bVhi m c t (ix2 k (y 1))

theorem stepAt_apply (c : Dev nD) (t : Fin cfg0.N) (acc : FVec Ideal S1024x2048 .f32) (y : S1024x2048.Idx) :
    stepAt m c t acc y = acc y + added m c t y := by
  idx_vars y
  exact step_apply _ _ _ _ _ _ acc y0 y1

theorem zero_apply (y : S1024x2048.Idx) : k0_pay4 (F := Ideal) y = 0 := by
  pointwise [k0_pay4]

/-- A row block's sum after its last point: over all the experts. -/
theorem sum_last (c : Dev nD) (t : Fin cfg0.N) (ht : t.val % 16 = 15) (r : Fin 1024) (n : Fin 2048) (T : Fin 8192)
    (hT : T.val = t.val / 16 * 1024 + r.val) :
    (show FVec Ideal S1024x2048 .f32 from sumAt m c t.val t.isLt) (ix2 r n) = ∑ e : Fin 16384, part m c T n e := by
  have h := Pipeline.eq_sum_fin_of_reset_step_apply_of_flush (M := EReal) (ι := S1024x2048.Idx)
    (fun n h => (show FVec Ideal S1024x2048 .f32 from sumAt m c n h)) 16 (fun _ => (0 : EReal)) (added m c)
    (fun t h y => by
      show (show FVec Ideal S1024x2048 .f32 from sumAt m c t.val t.isLt) y = _
      rw [sumAt_first m c t h]; exact (stepAt_apply m c t _ y).trans (by rw [zero_apply]))
    (fun t h y => by
      show (show FVec Ideal S1024x2048 .f32 from sumAt m c t.val t.isLt) y = _
      rw [sumAt_next m c t h]; exact (stepAt_apply m c t _ y).trans (by idx_vars y; pointwise))
    t ht (ix2 r n)
  refine h.trans ?_
  rw [zero_add]
  unfold added
  rw [Finset.sum_add_distrib, Fin.sum_univ_two_halves 8192 8192 (by norm_num) (part m c T n)]
  refine congrArg₂ (· + ·) ?_ ?_
  · refine Fin.sum_mul_add_congr (L := 8192) fun s k hl => ?_
    exact part_low m c _ r n k T _ (by have := s.isLt; simp only []; omega) (by have := s.isLt; simp only []; omega)
  · refine Fin.sum_mul_add_congr (L := 8192) fun s k hl => ?_
    exact part_high m c _ r n k T _ (by have := s.isLt; simp only []; omega) (by have := s.isLt; simp only []; omega)

/-- An element of a normalised row block. -/
theorem normAt_apply (c : Dev nD) (t : Fin cfg0.N) (ht : t.val % 16 = 15) (r : Fin 1024) (n : Fin 2048) (T : Fin 8192)
    (hT : T.val = t.val / 16 * 1024 + r.val) :
    (show FVec Ideal S1024x2048 .f32 from normAt m c t) (ix2 r n)
      = ReferenceIdeal.Dense.norm (ReferenceIdeal.Dense.pre (hid m c) (tabU m c) (tabV m c) (wrd m c))
        (m ((c.tc : Thread nD τ).loc main_arg4)) (m ((c.tc : Thread nD τ).loc main_arg5)) (ix2 T n) := by
  rw [ReferenceIdeal.Dense.norm_apply]
  refine (ReferenceIdeal.Dense.norm_pay _ _ _ _ r n).trans ?_
  have hx : ∀ k : Fin 2048, Ideal.ofBits .f32 0x3F9837F0#32
        * (show FVec Ideal S1024x2048 .f32 from (rowM (rowOf t.val)).view.read (Elt Ideal) (V m c main_arg0)) (ix2 r k)
        + (show FVec Ideal S1024x2048 .f32 from sumAt m c t.val t.isLt) (ix2 r k)
      = ReferenceIdeal.Dense.pre (hid m c) (tabU m c) (tabV m c) (wrd m c) (ix2 T k) := fun k => by
    rw [ReferenceIdeal.Dense.pre_apply, sum_last m c t ht r k T hT]
    exact congrArg (fun x : EReal => Ideal.ofBits .f32 0x3F9837F0#32 * x + _) (res_at m c t r k T hT)
  have hg : (show FVec Ideal S1x2048 .f32 from ld (bGam m c t) fullR) (ix2 0 n)
      = (show FVec Ideal S2048 .f32 from m ((c.tc : Thread nD τ).loc main_arg4)) (ix1 n) :=
    Eq.trans (by pointwise) (gam_at m c t n)
  have hb : (show FVec Ideal S1x2048 .f32 from ld (bBet m c t) fullR) (ix2 0 n)
      = (show FVec Ideal S2048 .f32 from m ((c.tc : Thread nD τ).loc main_arg5)) (ix1 n) :=
    Eq.trans (by pointwise) (bet_at m c t n)
  exact congr (congr (congrArg₂ ReferenceIdeal.Dense.rowNorm (funext hx) hg) hb) rfl

/-- The result array after the run. -/
theorem final (c : Dev nD) : (dats m 0 c).arrAt 8 (cfgs 0).N
    = ReferenceIdeal.Dense.norm (ReferenceIdeal.Dense.pre (hid m c) (tabU m c) (tabV m c) (wrd m c))
      (m ((c.tc : Thread nD τ).loc main_arg4)) (m ((c.tc : Thread nD τ).loc main_arg5)) := by
  refine (dats m 0 c).arrAt_eq_of_covers 8 _ (by decide +kernel) fun t hf y => ?_
  blk_simp
  rw [after0_8]
  have ht : t.val % 16 = 15 := (flush0_8 t).mp hf
  have hN : t.val < 128 := (idx t).2.2.2.2.2.2.2.2.2
  unfold outAt
  rw [if_pos ht]
  idx_vars y
  have hT : t.val / 16 * 1024 + y0.val < 8192 := by have := y0.isLt; omega
  have e : (win0_8.blk t).view.emb (ix2 y0 y1) = (ix2 (⟨t.val / 16 * 1024 + y0.val, hT⟩ : Fin 8192) y1 : S8192x2048.Idx) := by
    blk_ext [idx t]
  exact (normAt_apply m c t ht y0 y1 _ rfl).trans (congrArg _ e.symm)

end Cert.KernelIdeal.Dense
-- ==== Proof.PeerSame.lean ====
module

public import proofs.«01_k».proof.Defs
public import proofs.«01_k».proof.Proof.Gen.Kernel
public import proofs.«01_k».proof.Proof.PeerFrame

@[expose] public section

/-! The printed kernel and the idealized one have the same text: the run over any float values serves both. -/

set_option maxRecDepth 65536

namespace Cert.Dense

open Idealize.ShloMosaic Idealize.SL.Sem

/-- The two bodies are one text. -/
theorem body_same : @Cert.Kernel.cc0_peer_dense Bits _ _ = Cert.KernelIdeal.cc0_peer_dense := rfl

/-- The two body tables are one. -/
theorem table_same : Cert.Kernel.defs₀ (F := Bits) = Cert.KernelIdeal.defs₀ := by
  unfold Cert.Kernel.defs₀ Cert.KernelIdeal.defs₀
  refine congrArg Defs.onTc ?_
  funext l x
  match l, x with
  | 0, (t, s) => simp only [body_same]; rfl
  | ⟨_ + 1, h⟩, _ => exact absurd h (Nat.not_lt.2 (Nat.le_add_left _ _))

/-- So are the two programs' definitions. -/
theorem defs_same : (Cert.Kernel.defs (F := Bits)) = Cert.KernelIdeal.defs :=
  congrArg (Pipeline.defs _) table_same

theorem frame_kernel : Cert.quiescent_Kernel := fun m g _ => by
  rw [defs_same]
  exact Cert.KernelIdeal.Dense.frame_args (F := Bits) m g

end Cert.Dense

end
-- ==== Proof.ProjValue.lean ====
module

public import proofs.«01_k».proof.Proof.Gen.Kernel2Ideal.Value
public import proofs.«01_k».proof.Proof.Gen.Reference2Ideal.Run
public import Idealize.ShloMosaic.Lib.Pipeline.ValueKit

@[expose] public section

/-! The input projections: every element of the kernel's result is the product's, the gate's sixteen columns skipped. -/

set_option maxRecDepth 16384

noncomputable section

namespace Cert.Kernel2Ideal.Proj

open Cert.Kernel2Ideal Cert.Kernel2Ideal.Gen Cert.Kernel2Ideal.Value
open Idealize.ShloMosaic Idealize.ShloMosaic.TcCoe Idealize.SL.Sem
open Idealize.ShloMosaic.Pipeline (Dat)
open Idealize.ShloMosaic.View (ld)
open scoped BigOperators

variable (m : (ℓ : Loc nD τ sig) → Buf (Elt Ideal) ℓ)

/-- The windows' places at point `t`: the weights' window begins at a row, sixteen further on from the fourth column tile. -/
theorem idx : ∀ t : Fin cfg0.N, win0_0.index t = ![t.val / 7, 0]
    ∧ win0_1.index t = ![t.val % 7 * 1024 + (if 3 ≤ t.val % 7 then 16 else 0), 0]
    ∧ win0_2.index t = ![t.val / 7, t.val % 7] ∧ t.val < 28 :=
  (by decide +kernel : ∀ t : Fin grid0.N, _)

/-- The tokens and the combined weights. -/
abbrev tok (c : Dev nD) : FVec Ideal S8192x2048 .f32 := m ((c.tc : Thread nD τ).loc main_arg0)
abbrev wgt (c : Dev nD) : FVec Ideal S2048x7184 .f32 := m ((c.tc : Thread nD τ).loc main_arg1)

/-- The weights' column that result column `n` is made with. -/
def col (n : Fin 7168) : Fin 7184 := ⟨n.val + (if 3072 ≤ n.val then 16 else 0), by split <;> omega⟩

abbrev bTok (c : Dev nD) (t : Fin cfg0.N) : FVec Ideal S2048x2048 .bf16 := iblk m c 0 t
abbrev bWgt (c : Dev nD) (t : Fin cfg0.N) : FVec Ideal S1024x2048 .f32 := iblk m c 1 t

theorem tok_at (c : Dev nD) (t : Fin cfg0.N) (r d : Fin 2048) (R : Fin 8192) (hR : R.val = t.val / 7 * 2048 + r.val) :
    bTok m c t (ix2 r d) = tok m c (ix2 R d) := by
  unfold bTok
  blk_point [iblk, idx t]
theorem wgt_at (c : Dev nD) (t : Fin cfg0.N) (r : Fin 1024) (d : Fin 2048) (C : Fin 7184)
    (hC : C.val = t.val % 7 * 1024 + (if 3 ≤ t.val % 7 then 16 else 0) + r.val) :
    bWgt m c t (ix2 r d) = wgt m c (ix2 d C) := by
  unfold bWgt
  blk_point [iblk, idx t]
  · show win0_1.index t 1 + 1 * d.val = d.val
    rw [(idx t).2.1]
    show 0 + 1 * d.val = d.val
    omega
  · show win0_1.index t 0 + 1 * r.val = C.val
    rw [(idx t).2.1]
    show t.val % 7 * 1024 + (if 3 ≤ t.val % 7 then 16 else 0) + 1 * r.val = C.val
    omega

theorem pay_apply (x : FVec Ideal S2048x2048 .bf16) (w : FVec Ideal S1024x2048 .f32) (r : Fin 2048) (n : Fin 1024) :
    k0_pay1 (F := Ideal) x w (ix2 r n) = ∑ d : Fin 2048, x (ix2 r d) * w (ix2 n d) := by
  pointwise [k0_pay1]

/-- What the reference computes. -/
def plain (x : FVec Ideal S8192x2048 .f32) (w : FVec Ideal S2048x7184 .f32) : FVec Ideal S8192x7168 .bf16 :=
  truncf .bf16 (concatenate S8192x7168 1
    [⟨Cert.Reference2Ideal.S8192x3072, extractStridedSlice Cert.Reference2Ideal.S8192x3072 ![0, 0] (Host.dotGeneral Cert.Reference2Ideal.dot_S8192x2048_S2048x7184_S8192x7184_1_0_0_1_n_n none x w) Cert.Reference2Ideal.Gen.slices_S8192x7184_S8192x3072_0_0⟩,
     ⟨Cert.Reference2Ideal.S8192x4096, extractStridedSlice Cert.Reference2Ideal.S8192x4096 ![0, 3088] (Host.dotGeneral Cert.Reference2Ideal.dot_S8192x2048_S2048x7184_S8192x7184_1_0_0_1_n_n none x w) Cert.Reference2Ideal.Gen.slices_S8192x7184_S8192x4096_0_3088⟩]
    Cert.Reference2Ideal.Gen.concatenates_S8192x3072_S8192x4096_S8192x7168_d1) Cert.Reference2Ideal.Gen.bitsLt_bf16_f32

theorem plain_apply (x : FVec Ideal S8192x2048 .f32) (w : FVec Ideal S2048x7184 .f32) (T : Fin 8192) (n : Fin 7168) :
    plain x w (ix2 T n) = ∑ d : Fin 2048, x (ix2 T d) * w (ix2 d (col n)) := by
  pointwise [plain]
  unfold col
  split
  · rename_i h
    have e : (⟨n.val, by omega⟩ : Fin 7184) = ⟨n.val + (if 3072 ≤ n.val then 16 else 0), by split <;> omega⟩ :=
      Fin.ext (by simp only []; split <;> omega)
    rw [e]
  · rename_i h
    have e : (⟨3088 + (n.val - 3072), by omega⟩ : Fin 7184) = ⟨n.val + (if 3072 ≤ n.val then 16 else 0), by split <;> omega⟩ :=
      Fin.ext (by simp only []; split <;> omega)
    rw [e]

/-- The result array after the run. -/
theorem final (c : Dev nD) : (dats m 0 c).arrAt 2 cfg0.N = plain (tok m c) (wgt m c) := by
  refine (dats m 0 c).arrAt_eq_of_covers 2 _ (by decide +kernel) fun t hf y => ?_
  blk_simp
  rw [after0_2]
  have hN : t.val < 28 := (idx t).2.2.2
  unfold out0_2
  canon_tiles y h
  idx_vars y
  have hT : t.val / 7 * 2048 + y0.val < 8192 := by have := y0.isLt; omega
  have hn : t.val % 7 * 1024 + y1.val < 7168 := by have := y1.isLt; omega
  have e : (win0_2.blk t).view.emb y
      = (ix2 (⟨t.val / 7 * 2048 + y0.val, hT⟩ : Fin 8192) (⟨t.val % 7 * 1024 + y1.val, hn⟩ : Fin 7168) : S8192x7168.Idx) := by
    blk_ext [idx t]
  refine Eq.trans ?_ (congrArg _ e.symm)
  refine Eq.trans ?_ (plain_apply _ _ _ _).symm
  refine (pay_apply _ _ _ _).trans ?_
  refine Finset.sum_congr rfl fun d _ => ?_
  refine congrArg₂ (· * ·) (Eq.trans (by pointwise) (tok_at m c t y0 d _ rfl)) (Eq.trans (by pointwise) (wgt_at m c t y1 d _ ?_))
  show t.val % 7 * 1024 + y1.val + (if 3072 ≤ t.val % 7 * 1024 + y1.val then 16 else 0) = _
  have := y1.isLt
  split <;> split <;> omega

end Cert.Kernel2Ideal.Proj
-- ==== Proof.OutValue.lean ====
module

public import proofs.«01_k».proof.Proof.Gen.Kernel3Ideal.Value
public import proofs.«01_k».proof.Proof.Gen.Reference3Ideal.Run
public import proofs.«01_k».proof.Proof.PeerRef

@[expose] public section

/-! The output projection with its residual and row normalisation: the kernel's three results are the reference's. -/

set_option maxRecDepth 16384

noncomputable section

namespace Cert.Kernel3Ideal.Out

open Cert.Kernel3Ideal Cert.Kernel3Ideal.Gen Cert.Kernel3Ideal.Value
open Idealize.ShloMosaic Idealize.ShloMosaic.TcCoe Idealize.SL.Sem
open Idealize.ShloMosaic.Pipeline (Dat)
open Idealize.ShloMosaic.View (ld)
open Cert.ReferenceIdeal.Dense (norm norm_apply rowNorm)
open scoped BigOperators

variable (m : (ℓ : Loc nD τ sig) → Buf (Elt Ideal) ℓ)

/-- The windows' places at point `t`. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0]
    ∧ win0_6.index t = ![t.val, 0] ∧ win0_7.index t = ![t.val, 0] ∧ win0_8.index t = ![t.val, 0] ∧ t.val < 16 :=
  (by decide +kernel : ∀ t : Fin grid0.N, _)

/-- The mixer's result, the output weights, the tokens, the normalisation's scale and shift, the query weights. -/
abbrev mix (c : Dev nD) : FVec Ideal S8192x2048 .f32 := m ((c.tc : Thread nD τ).loc main_arg0)
abbrev wgt (c : Dev nD) : FVec Ideal S2048x2048 .f32 := m ((c.tc : Thread nD τ).loc main_arg1)
abbrev tok (c : Dev nD) : FVec Ideal S8192x2048 .f32 := m ((c.tc : Thread nD τ).loc main_arg2)
abbrev gam (c : Dev nD) : FVec Ideal S2048 .f32 := m ((c.tc : Thread nD τ).loc main_arg3)
abbrev bet (c : Dev nD) : FVec Ideal S2048 .f32 := m ((c.tc : Thread nD τ).loc main_arg4)
abbrev qry (c : Dev nD) : FVec Ideal S2048x2048 .f32 := m ((c.tc : Thread nD τ).loc main_arg5)

abbrev bMix (c : Dev nD) (t : Fin cfg0.N) : FVec Ideal S512x2048 .bf16 := iblk m c 0 t
abbrev bWgt (c : Dev nD) (t : Fin cfg0.N) : FVec Ideal S2048x2048 .bf16 := iblk m c 1 t
abbrev bTok (c : Dev nD) (t : Fin cfg0.N) : FVec Ideal S512x2048 .f32 := iblk m c 2 t
abbrev bGam (c : Dev nD) (t : Fin cfg0.N) : FVec Ideal S1x2048 .f32 := iblk m c 3 t
abbrev bBet (c : Dev nD) (t : Fin cfg0.N) : FVec Ideal S1x2048 .f32 := iblk m c 4 t
abbrev bQry (c : Dev nD) (t : Fin cfg0.N) : FVec Ideal S128x2048 .f32 := iblk m c 5 t

theorem mix_at (c : Dev nD) (t : Fin cfg0.N) (r : Fin 512) (d : Fin 2048) (R : Fin 8192) (hR : R.val = t.val * 512 + r.val) :
    bMix m c t (ix2 r d) = mix m c (ix2 R d) := by
  unfold bMix
  blk_point [iblk, idx t]
theorem wgt_at (c : Dev nD) (t : Fin cfg0.N) (d n : Fin 2048) : bWgt m c t (ix2 d n) = wgt m c (ix2 d n) := by
  unfold bWgt
  blk_point [iblk, idx t]
theorem tok_at (c : Dev nD) (t : Fin cfg0.N) (r : Fin 512) (d : Fin 2048) (R : Fin 8192) (hR : R.val = t.val * 512 + r.val) :
    bTok m c t (ix2 r d) = tok m c (ix2 R d) := by
  unfold bTok
  blk_point [iblk, idx t]
theorem gam_at (c : Dev nD) (t : Fin cfg0.N) (n : Fin 2048) : bGam m c t (ix2 0 n) = gam m c (ix1 n) := by
  unfold bGam
  blk_point [iblk, idx t]
theorem bet_at (c : Dev nD) (t : Fin cfg0.N) (n : Fin 2048) : bBet m c t (ix2 0 n) = bet m c (ix1 n) := by
  unfold bBet
  blk_point [iblk, idx t]
theorem qry_at (c : Dev nD) (t : Fin cfg0.N) (r : Fin 128) (d : Fin 2048) (R : Fin 2048) (hR : R.val = t.val * 128 + r.val) :
    bQry m c t (ix2 r d) = qry m c (ix2 R d) := by
  unfold bQry
  blk_point [iblk, idx t]

/-- The tokens, scaled, with the projection added: what the reference normalises. -/
def pre (x : FVec Ideal S8192x2048 .f32) (w : FVec Ideal S2048x2048 .f32) (h : FVec Ideal S8192x2048 .f32) : FVec Ideal S8192x2048 .f32 :=
  addf (mulf (broadcastInDim S8192x2048 ![] Cert.Reference3Ideal.Gen.bcast_S_S8192x2048 (constant Cert.Reference3Ideal.S_ .f32 0x3F9837F0#32)) h)
    (Host.dotGeneral Cert.Reference3Ideal.dot_S8192x2048_S2048x2048_S8192x2048_1_0_0_1_n_n none x w)

theorem pre_apply (x : FVec Ideal S8192x2048 .f32) (w : FVec Ideal S2048x2048 .f32) (h : FVec Ideal S8192x2048 .f32) (T : Fin 8192) (n : Fin 2048) :
    pre x w h (ix2 T n) = Ideal.ofBits .f32 0x3F9837F0#32 * h (ix2 T n) + ∑ d : Fin 2048, x (ix2 T d) * w (ix2 d n) := by
  pointwise [pre]

/-- What the reference computes. -/
def plain (c : Dev nD) : FVec Ideal S8192x2048 .f32 := norm (pre (mix m c) (wgt m c) (tok m c)) (gam m c) (bet m c)

theorem pay_apply (x : FVec Ideal S256x2048 .bf16) (w : FVec Ideal S2048x2048 .bf16) (h : FVec Ideal S256x2048 .f32)
    (g b : FVec Ideal S1x2048 .f32) (r : Fin 256) (n : Fin 2048) :
    k0_pay3 (F := Ideal) x w h g b (ix2 r n)
      = rowNorm (fun k => Ideal.ofBits .f32 0x3F9837F0#32 * h (ix2 r k) + ∑ d : Fin 2048, x (ix2 r d) * w (ix2 d k)) (g (ix2 0 n)) (b (ix2 0 n)) n := by
  pointwise [k0_pay3, rowNorm]
/-- The second half block's payload is the first's. -/
theorem pay_same : @k0_pay5 Ideal _ = k0_pay3 := rfl

/-- Rows `o …` of a block, normalised, are the rows of the reference's result. -/
theorem rows_eq (c : Dev nD) (t : Fin cfg0.N) (x : FVec Ideal S256x2048 .bf16) (w : FVec Ideal S2048x2048 .bf16) (h : FVec Ideal S256x2048 .f32)
    (g b : FVec Ideal S1x2048 .f32) (r : Fin 256) (n : Fin 2048) (R : Fin 512) (T : Fin 8192) (hT : T.val = t.val * 512 + R.val)
    (hx : ∀ d, x (ix2 r d) = bMix m c t (ix2 R d)) (hw : ∀ d k, w (ix2 d k) = bWgt m c t (ix2 d k))
    (hh : ∀ d, h (ix2 r d) = bTok m c t (ix2 R d)) (hg : g (ix2 0 n) = bGam m c t (ix2 0 n)) (hb : b (ix2 0 n) = bBet m c t (ix2 0 n)) :
    k0_pay3 (F := Ideal) x w h g b (ix2 r n) = plain m c (ix2 T n) := by
  rw [pay_apply, plain, norm_apply, hg, hb, gam_at, bet_at]
  refine congrArg (fun f => rowNorm f _ _ n) (funext fun k => ?_)
  rw [pre_apply, hh, tok_at m c t R k T hT]
  refine congrArg (_ + ·) (Finset.sum_congr rfl fun d _ => ?_)
  rw [hx, hw, mix_at m c t R d T hT, wgt_at]

theorem lower (c : Dev nD) (t : Fin cfg0.N) (r : Fin 256) (n : Fin 2048) (T : Fin 8192) (hT : T.val = t.val * 512 + r.val) :
    k0_pay6 (F := Ideal) (iblk m c 0 t) (iblk m c 1 t) (iblk m c 2 t) (iblk m c 3 t) (iblk m c 4 t) (iblk m c 5 t) (ix2 r n) = plain m c (ix2 T n) := by
  unfold k0_pay6
  refine rows_eq m c t _ _ _ _ _ r n ⟨r.val, by omega⟩ T hT (fun d => ?_) (fun d k => ?_) (fun d => ?_) ?_ ?_
  all_goals pointwise
theorem upper (c : Dev nD) (t : Fin cfg0.N) (r : Fin 256) (n : Fin 2048) (T : Fin 8192) (hT : T.val = t.val * 512 + (256 + r.val)) :
    k0_pay7 (F := Ideal) (iblk m c 0 t) (iblk m c 1 t) (iblk m c 2 t) (iblk m c 3 t) (iblk m c 4 t) (iblk m c 5 t) (ix2 r n) = plain m c (ix2 T n) := by
  unfold k0_pay7
  rw [pay_same]
  refine rows_eq m c t _ _ _ _ _ r n ⟨256 + r.val, by omega⟩ T hT (fun d => ?_) (fun d k => ?_) (fun d => ?_) ?_ ?_
  all_goals pointwise

/-- The normalised rows after the run. -/
theorem final6 (c : Dev nD) : (dats m 0 c).arrAt 6 cfg0.N = plain m c := by
  refine (dats m 0 c).arrAt_eq_of_covers 6 _ (by decide +kernel) fun t hf y => ?_
  blk_simp
  rw [after0_6]
  have hN : t.val < 16 := (idx t).2.2.2.2.2.2.2.2.2
  unfold out0_6
  canon_tiles y h
  · idx_vars y
    have hT : t.val * 512 + (256 + y0.val) < 8192 := by omega
    have e : (win0_6.blk t).view.emb y = (ix2 (⟨t.val * 512 + (256 + y0.val), hT⟩ : Fin 8192) y1 : S8192x2048.Idx) := by
      blk_ext [idx t]
    exact (upper m c t y0 y1 _ rfl).trans (congrArg _ e.symm)
  · idx_vars y
    have hT : t.val * 512 + y0.val < 8192 := by omega
    have e : (win0_6.blk t).view.emb y = (ix2 (⟨t.val * 512 + y0.val, hT⟩ : Fin 8192) y1 : S8192x2048.Idx) := by
      blk_ext [idx t]
    exact (lower m c t y0 y1 _ rfl).trans (congrArg _ e.symm)

/-- The same rows in the narrower format: over the extended reals, the same values. -/
theorem final7 (c : Dev nD) : (dats m 0 c).arrAt 7 cfg0.N = plain m c := by
  refine (dats m 0 c).arrAt_eq_of_covers 7 _ (by decide +kernel) fun t hf y => ?_
  blk_simp
  rw [after0_7]
  have hN : t.val < 16 := (idx t).2.2.2.2.2.2.2.2.2
  unfold out0_7
  canon_tiles y h
  · idx_vars y
    have hT : t.val * 512 + (256 + y0.val) < 8192 := by omega
    have e : (win0_7.blk t).view.emb y = (ix2 (⟨t.val * 512 + (256 + y0.val), hT⟩ : Fin 8192) y1 : S8192x2048.Idx) := by
      blk_ext [idx t]
    exact (upper m c t y0 y1 _ rfl).trans (congrArg _ e.symm)
  · idx_vars y
    have hT : t.val * 512 + y0.val < 8192 := by omega
    have e : (win0_7.blk t).view.emb y = (ix2 (⟨t.val * 512 + y0.val, hT⟩ : Fin 8192) y1 : S8192x2048.Idx) := by
      blk_ext [idx t]
    exact (lower m c t y0 y1 _ rfl).trans (congrArg _ e.symm)

/-- The query weights after the run: cast. -/
theorem final8 (c : Dev nD) : (dats m 0 c).arrAt 8 cfg0.N = qry m c := by
  refine (dats m 0 c).arrAt_eq_of_covers 8 _ (by decide +kernel) fun t hf y => ?_
  blk_simp
  rw [after0_8]
  have hN : t.val < 16 := (idx t).2.2.2.2.2.2.2.2.2
  unfold out0_8
  canon_tiles y h
  idx_vars y
  have hT : t.val * 128 + y0.val < 2048 := by omega
  have e : (win0_8.blk t).view.emb y = (ix2 (⟨t.val * 128 + y0.val, hT⟩ : Fin 2048) y1 : S2048x2048.Idx) := by
    blk_ext [idx t]
  refine Eq.trans ?_ (congrArg _ e.symm)
  refine Eq.trans ?_ (qry_at m c t y0 y1 _ rfl)
  pointwise [k0_pay2]

end Cert.Kernel3Ideal.Out
-- ==== Proof.GateRef.lean ====
module

public import proofs.«01_k».proof.Proof.Gen.Reference4Ideal.Run
public import Idealize.ShloMosaic.Lib.Pipeline.ValueKit

@[expose] public section

/-! The decay gates as the reference states them, read at one element: in each chunk of 64 tokens, the running sums of the
logarithms of the gates. -/

set_option maxRecDepth 16384

noncomputable section

namespace Cert.Reference4Ideal.Gate

open Cert.Reference4Ideal
open Idealize.ShloMosaic Idealize.ShloMosaic.TcCoe Idealize.SL.Sem
open scoped BigOperators

/-- A sum over the positions of a window that ends at `j` runs over the entries up to `j`. -/
theorem sum_window (f : Fin 64 → EReal) (j : Fin 64) :
    (∑ w : Fin 64, if h : 63 ≤ j.val + w.val then f ⟨j.val + w.val - 63, by omega⟩ else 0) = ∑ i : Fin 64, if i ≤ j then f i else 0 := by
  refine Fintype.sum_equiv (Equiv.addRight (j + 1)) _ _ fun w => ?_
  have hw := w.isLt
  have hj := j.isLt
  have e : ((Equiv.addRight (j + 1)) w).val = (w.val + (j.val + 1)) % 64 := by
    show (w + (j + 1)).val = _
    rw [Fin.val_add, Fin.val_add]
    show (w.val + (j.val + 1) % 64) % 64 = _
    omega
  by_cases h : 63 ≤ j.val + w.val
  · rw [dif_pos h, if_pos (Fin.le_def.mpr (by rw [e]; omega))]
    exact congrArg f (Fin.ext (by rw [e]; simp only []; omega))
  · rw [dif_neg h, if_neg (fun q => by have := Fin.le_def.mp q; rw [e] at this; omega)]

/-- The one-column windows' positions are their rows. -/
def rowEquiv : (⟨3, ![1, 64, 1]⟩ : Shape).Idx ≃ Fin 64 where
  toFun w := w 1
  invFun i := ix3 (0 : Fin 1) i (0 : Fin 1)
  left_inv w := by
    refine Eq.trans ?_ (eq_ix3 w).symm
    refine congrArg₂ (fun a b => (ix3 a (w 1) b : (⟨3, ![1, 64, 1]⟩ : Shape).Idx)) (Subsingleton.elim _ _) (Subsingleton.elim _ _)
  right_inv _ := rfl

/-- A running sum along the middle axis, from zero: each entry is the sum of the entries up to it. -/
theorem cumsum_apply (x : FVec Ideal S128x64x512 .f32) (init : FVec Ideal S_ .f32) (h0 : init (Shape.Idx.first Gen.h_S_) = 0)
    (h : S128x64x512.ReduceWindows (![1, 64, 1] : Fin 3 → Nat) ![1, 1, 1] ![0, 63, 0] ![0, 0, 0] S128x64x512)
    (b : Fin 128) (j : Fin 64) (n : Fin 512) :
    Host.reduceWindowAdd (F := Ideal) ![1, 64, 1] ![1, 1, 1] ![0, 63, 0] ![0, 0, 0] x init h Gen.h_S_ (ix3 b j n)
      = ∑ i : Fin 64, if i ≤ j then x (ix3 b i n) else 0 := by
  refine Eq.trans ?_ (sum_window (fun i => x (ix3 b i n)) j)
  show Ideal.hostReduceWindowAdd ![1, 64, 1] ![1, 1, 1] ![0, 63, 0] ![0, 0, 0] h x (init (Shape.Idx.first Gen.h_S_)) (ix3 b j n) = _
  rw [h0]
  unfold Ideal.hostReduceWindowAdd Host.reduceWindow
  dsimp only
  refine (List.foldl_map (f := _) (g := (· + ·)) ..).symm.trans ?_
  refine (List.sum_eq_foldl ..).symm.trans ?_
  refine (Fin.sum_univ_def _).symm.trans ?_
  refine Fintype.sum_equiv ((Shape.rowMajor (⟨3, ![1, 64, 1]⟩ : Shape)).symm.trans rowEquiv) _ _ fun w => ?_
  obtain ⟨p, rfl⟩ := (Shape.rowMajor (⟨3, ![1, 64, 1]⟩ : Shape)).surjective w
  rw [Equiv.trans_apply]
  simp only [Equiv.symm_apply_apply]
  have p0 : (p 0).val = 0 := by have h : (p 0).val < 1 := (p 0).isLt; omega
  have p2 : (p 2).val = 0 := by have h : (p 2).val < 1 := (p 2).isLt; omega
  have p1 : (p 1).val < 64 := (p 1).isLt
  have hr : (rowEquiv p).val = (p 1).val := rfl
  have hb := b.isLt
  have hn := n.isLt
  split
  · next hin =>
    have h1 := hin 1
    change 63 ≤ j.val * 1 + (p 1).val ∧ j.val * 1 + (p 1).val - 63 < 64 at h1
    rw [dif_pos (by omega)]
    refine congrArg x (funext fun a => Fin.ext ?_)
    match a with
    | ⟨0, _⟩ => show b.val * 1 + (p 0).val - 0 = b.val; omega
    | ⟨1, _⟩ => show j.val * 1 + (p 1).val - 63 = j.val + (p 1).val - 63; omega
    | ⟨2, _⟩ => show n.val * 1 + (p 2).val - 0 = n.val; omega
  · next hin =>
    rw [dif_neg fun hle => hin fun a => by
      match a with
      | ⟨0, _⟩ => show 0 ≤ b.val * 1 + (p 0).val ∧ b.val * 1 + (p 0).val - 0 < 128; omega
      | ⟨1, _⟩ => show 63 ≤ j.val * 1 + (p 1).val ∧ j.val * 1 + (p 1).val - 63 < 64; omega
      | ⟨2, _⟩ => show 0 ≤ n.val * 1 + (p 2).val ∧ n.val * 1 + (p 2).val - 0 < 512; omega]

/-- Before the logarithm of the sigmoid: the gate's low-rank product. -/
def pre (x : FVec Ideal S8192x2048 .f32) (w : FVec Ideal S2048x7184 .f32) (u : FVec Ideal S16x512 .f32) (b : FVec Ideal S512 .f32) :
    FVec Ideal S8192x512 .f32 :=
  addf (Host.dotGeneral dot_S8192x16_S16x512_S8192x512_1_0_0_1_n_n none (Host.dotGeneral dot_S8192x2048_S2048x16_S8192x16_1_0_0_1_n_n none x (extractStridedSlice S2048x16 ![0, 3072] w Gen.slices_S2048x7184_S2048x16_0_3072)) u)
    (broadcastInDim S8192x512 ![0, 1] Gen.bcast_S1x512_S8192x512_0_1 (broadcastInDim S1x512 ![1] Gen.bcast_S512_S1x512_1 b))
/-- Zeros. -/
def zeros : FVec Ideal S8192x512 .f32 := broadcastInDim S8192x512 ![] Gen.bcast_S_S8192x512 (constant S_ .f32 0x00000000#32)
/-- The logarithm of the gate: of the sigmoid's sixteenth root. -/
def logs (z : FVec Ideal S8192x512 .f32) : FVec Ideal S8192x512 .f32 :=
  Host.divf (Host.negf (select (cmpf .une (subf (Host.negf z) zeros) (subf (Host.negf z) zeros)) (addf (Host.negf z) zeros)
    (addf (maximumf (Host.negf z) zeros) (Host.log1p (Host.exp (Host.negf (Host.absf (subf (Host.negf z) zeros))))))))
    (broadcastInDim S8192x512 ![] Gen.bcast_S_S8192x512 (constant S_ .f32 0x41800000#32))
/-- What the reference computes. -/
def plain (x : FVec Ideal S8192x2048 .f32) (w : FVec Ideal S2048x7184 .f32) (u : FVec Ideal S16x512 .f32) (b : FVec Ideal S512 .f32) :
    FVec Ideal S8192x512 .f32 :=
  shapeCast _ (Host.reduceWindowAdd ![1, 64, 1] ![1, 1, 1] ![0, 63, 0] ![0, 0, 0] (shapeCast _ (logs (pre x w u b)) Gen.shapeCasts_S8192x512_S128x64x512)
    (broadcastInDim S_ ![] Gen.bcast_S_S_ (constant S_ .f32 0x00000000#32)) Gen.reduceWindows_S128x64x512_S128x64x512_w1s1p0_0_w64s1p63_0_w1s1p0_0 Gen.h_S_)
    Gen.shapeCasts_S128x64x512_S8192x512

/-- The gate's input for token `T` in column `n`. -/
def preAt (x : FVec Ideal S8192x2048 .f32) (w : FVec Ideal S2048x7184 .f32) (u : FVec Ideal S16x512 .f32) (b : FVec Ideal S512 .f32)
    (T : Fin 8192) (n : Fin 512) : EReal :=
  (∑ k : Fin 16, (∑ d : Fin 2048, x (ix2 T d) * w (ix2 d (⟨3072 + k.val, by omega⟩ : Fin 7184))) * u (ix2 k n)) + b (ix1 n)
/-- The logarithm of the gate of one input. -/
def logAt (z : EReal) : EReal := Ideal.div (min z 0 - Ideal.log1p (Ideal.exp (0 - max z (-z)))) (Ideal.ofBits .f32 0x41800000#32)

theorem pre_apply (x : FVec Ideal S8192x2048 .f32) (w : FVec Ideal S2048x7184 .f32) (u : FVec Ideal S16x512 .f32) (b : FVec Ideal S512 .f32)
    (T : Fin 8192) (n : Fin 512) : pre x w u b (ix2 T n) = preAt x w u b T n := by
  pointwise [pre, preAt]

/-- A sum of two nonnegative numbers or a real one is negated term by term. -/
theorem log_sigmoid (z : EReal) :
    -(max (-z) 0 + Ideal.log1p (Ideal.exp (-max (-z) (- -z)))) = min z 0 - Ideal.log1p (Ideal.exp (0 - max z (-z))) := by
  rw [neg_neg, max_comm (-z) z, zero_sub]
  have hb : ∃ r : ℝ, Ideal.log1p (Ideal.exp (-max z (-z))) = r := by
    have key : ∀ a : EReal, a ≠ ⊥ → ∃ r : ℝ, Ideal.log1p (Ideal.exp (-a)) = r := fun a ha => by
      induction a with
      | bot => exact absurd rfl ha
      | top => exact ⟨0, by rw [EReal.neg_top, Ideal.exp_bot, Ideal.log1p, add_zero, ← EReal.coe_one]; show (if (1 : ℝ) ≤ 0 then (⊥ : EReal) else (Real.log 1 : ℝ)) = _; rw [if_neg (by norm_num), Real.log_one]⟩
      | coe a =>
        refine ⟨Real.log (1 + Real.exp (-a)), ?_⟩
        rw [← EReal.coe_neg, Ideal.exp_coe, Ideal.log1p, ← EReal.coe_one, ← EReal.coe_add]
        show (if 1 + Real.exp (-a) ≤ 0 then (⊥ : EReal) else _) = _
        rw [if_neg (by have := Real.exp_pos (-a); linarith)]
    refine key _ fun h => ?_
    rw [max_eq_bot] at h
    obtain ⟨h1, h2⟩ := h
    rw [h1] at h2
    exact absurd h2 (by simp)
  obtain ⟨r, hr⟩ := hb
  rw [hr, EReal.neg_add (Or.inr (EReal.coe_ne_top r)) (Or.inr (EReal.coe_ne_bot r)), sub_eq_add_neg, sub_eq_add_neg]
  congr 1
  rcases le_total z 0 with h | h
  · rw [min_eq_left h, max_eq_left (by rw [← neg_zero]; exact EReal.neg_le_neg_iff.mpr h), neg_neg]
  · rw [min_eq_right h, max_eq_right (by rw [EReal.neg_le, neg_zero]; exact h), neg_zero]

theorem logs_apply (z : FVec Ideal S8192x512 .f32) (T : Fin 8192) (n : Fin 512) : logs z (ix2 T n) = logAt (z (ix2 T n)) := by
  unfold logAt
  rw [← log_sigmoid]
  pointwise [logs, zeros]
  rw [if_neg (fun q => q rfl)]
  rfl

theorem plain_apply (x : FVec Ideal S8192x2048 .f32) (w : FVec Ideal S2048x7184 .f32) (u : FVec Ideal S16x512 .f32) (b : FVec Ideal S512 .f32)
    (T : Fin 8192) (n : Fin 512) : plain x w u b (ix2 T n)
      = ∑ i : Fin 64, if i.val ≤ T.val % 64 then logAt (preAt x w u b ⟨T.val / 64 * 64 + i.val, by omega⟩ n) else 0 := by
  unfold plain
  pointwise
  rw [cumsum_apply]
  · refine Finset.sum_congr rfl fun i _ => ?_
    refine ite_congr (propext Fin.le_def) (fun _ => ?_) fun _ => rfl
    pointwise
    exact (logs_apply _ _ n).trans (congrArg logAt (pre_apply x w u b _ n))
  · exact Ideal.ofBits_zero_f32

end Cert.Reference4Ideal.Gate
-- ==== Proof.GateBits.lean ====
module

public import Idealize.ShloMosaic.Lib.Pipeline.ValueKit

@[expose] public section

/-! Which rows of a block of 256 a row's running sum takes, as the kernel decides it in 32-bit words. -/

set_option maxRecDepth 16384

namespace Cert.Kernel4Ideal.Gate

open Idealize.ShloMosaic

/-- A quotient by 64 that rounds down, as the kernel forms it from one that rounds towards zero. -/
noncomputable def quot (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)
theorem quot_eq : ∀ r : Fin 256, quot (BitVec.ofNat 32 r.val) = BitVec.ofNat 32 (r.val / 64) := by decide +kernel
theorem bit_eq : ∀ r k : Fin 256, IntOp.andi (IntOp.cmpi CmpIPredicate.sge (BitVec.ofNat 32 r.val) (BitVec.ofNat 32 k.val))
    (IntOp.cmpi CmpIPredicate.eq (BitVec.ofNat 32 (r.val / 64)) (BitVec.ofNat 32 (k.val / 64)))
      = if k.val ≤ r.val ∧ k.val / 64 = r.val / 64 then 1#1 else 0#1 := by decide +kernel

end Cert.Kernel4Ideal.Gate
-- ==== Proof.GateValue.lean ====
module

public import proofs.«01_k».proof.Proof.Gen.Kernel4Ideal.Value
public import proofs.«01_k».proof.Proof.GateRef
public import proofs.«01_k».proof.Proof.GateBits

@[expose] public section

/-! The decay gates: the kernel's two results are the reference's. -/

set_option maxRecDepth 16384

noncomputable section

namespace Cert.Kernel4Ideal.Gate

open Cert.Kernel4Ideal Cert.Kernel4Ideal.Gen Cert.Kernel4Ideal.Value
open Idealize.ShloMosaic Idealize.ShloMosaic.TcCoe Idealize.SL.Sem
open Idealize.ShloMosaic.Pipeline (Dat)
open Idealize.ShloMosaic.View (ld)
open Cert.Reference4Ideal.Gate (plain preAt logAt plain_apply)
open scoped BigOperators

variable (m : (ℓ : Loc nD τ sig) → Buf (Elt Ideal) ℓ)

/-- The windows' places at point `t`. -/
theorem idx : ∀ t : Fin cfg0.N, win0_0.index t = ![t.val, 0] ∧ win0_1.index t = ![24, 0] ∧ win0_2.index t = ![0, 0]
    ∧ win0_3.index t = ![0, 0] ∧ win0_4.index t = ![t.val, 0] ∧ win0_5.index t = ![t.val, 0] ∧ t.val < 8 :=
  (by decide +kernel : ∀ t : Fin grid0.N, _)

/-- The tokens, the input weights, the gate's second factor, its bias. -/
abbrev tok (c : Dev nD) : FVec Ideal S8192x2048 .f32 := m ((c.tc : Thread nD τ).loc main_arg0)
abbrev wgt (c : Dev nD) : FVec Ideal S2048x7184 .f32 := m ((c.tc : Thread nD τ).loc main_arg1)
abbrev up (c : Dev nD) : FVec Ideal S16x512 .f32 := m ((c.tc : Thread nD τ).loc main_arg2)
abbrev bias (c : Dev nD) : FVec Ideal S512 .f32 := m ((c.tc : Thread nD τ).loc main_arg3)

abbrev bTok (c : Dev nD) (t : Fin cfg0.N) : FVec Ideal S1024x2048 .f32 := iblk m c 0 t
abbrev bWgt (c : Dev nD) (t : Fin cfg0.N) : FVec Ideal S128x2048 .f32 := X0_1 m c t
abbrev bUp (c : Dev nD) (t : Fin cfg0.N) : FVec Ideal S128x512 .bf16 := iblk m c 2 t
abbrev bBias (c : Dev nD) (t : Fin cfg0.N) : FVec Ideal S1x512 .f32 := iblk m c 3 t

theorem tok_at (c : Dev nD) (t : Fin cfg0.N) (r : Fin 1024) (d : Fin 2048) (R : Fin 8192) (hR : R.val = t.val * 1024 + r.val) :
    bTok m c t (ix2 r d) = tok m c (ix2 R d) := by
  unfold bTok
  blk_point [iblk, idx t]
/-- What the calls before the launch leave in the three prepared arrays. -/
theorem V_bias (c : Dev nD) : V m c main_v3 = (shapeCast S1x512 (bias m c) shapeCasts_S512_S1x512 : FVec Ideal S1x512 .f32) := by
  show StableHlo.after (List.flatten [hostOps0, hostOps0_1, hostOps0_2]) (fun b => m (c, b)) main_v3 = _
  simp only [hostOps0, hostOps0_1, hostOps0_2, List.flatten_cons, List.flatten_nil, List.append_nil, List.cons_append, List.nil_append]
  after_results_simp <;> rfl
theorem V_wgt (c : Dev nD) : V m c main_v2 = (transpose S7184x2048 [1, 0] (wgt m c) transposes_S2048x7184_S7184x2048_1_0 : FVec Ideal S7184x2048 .f32) := by
  show StableHlo.after (List.flatten [hostOps0, hostOps0_1, hostOps0_2]) (fun b => m (c, b)) main_v2 = _
  simp only [hostOps0, hostOps0_1, hostOps0_2, List.flatten_cons, List.flatten_nil, List.append_nil, List.cons_append, List.nil_append]
  after_results_simp <;> rfl
/-- The gate's second factor, with rows of zeros below. -/
def upPad (u : FVec Ideal S16x512 .f32) : FVec Ideal S128x512 .bf16 :=
  truncf .bf16 (pad S128x512 ![0, 0] ![112, 0] ![0, 0] u (sitofp (F := Ideal) .f32 (constantI S_ 32 0#32)) pads_S16x512_S128x512_01120_000 h_S_) bitsLt_bf16_f32
theorem V_up (c : Dev nD) : V m c main_v1 = upPad (up m c) := by
  show StableHlo.after (List.flatten [hostOps0, hostOps0_1, hostOps0_2]) (fun b => m (c, b)) main_v1 = _
  simp only [hostOps0, hostOps0_1, hostOps0_2, List.flatten_cons, List.flatten_nil, List.append_nil, List.cons_append, List.nil_append]
  after_results_simp <;> rfl

theorem bias_at (c : Dev nD) (t : Fin cfg0.N) (n : Fin 512) : bBias m c t (ix2 0 n) = bias m c (ix1 n) := by
  refine Eq.trans (b := (shapeCast S1x512 (bias m c) shapeCasts_S512_S1x512 : FVec Ideal S1x512 .f32) (ix2 0 n)) ?_ (by pointwise)
  rw [← V_bias]
  unfold bBias
  blk_point [iblk, idx t]
theorem up_at (c : Dev nD) (t : Fin cfg0.N) (k : Fin 128) (n : Fin 512) :
    bUp m c t (ix2 k n) = if h : k.val < 16 then up m c (ix2 ⟨k.val, h⟩ n) else 0 := by
  refine Eq.trans (b := upPad (up m c) (ix2 k n)) ?_ ?_
  · rw [← V_up]
    unfold bUp
    unfold iblk
    refine congrArg (V m c main_v1) (?_ : _ = (ix2 k n : S128x512.Idx))
    blk_ext [idx t]
  · pointwise [upPad]
    refine dite_congr rfl (fun _ => rfl) fun _ => ?_
    show (((0#32 : BitVec 32).toInt : ℝ) : EReal) = 0
    simp
theorem wgt_at (c : Dev nD) (t : Fin cfg0.N) (k : Fin 128) (d : Fin 2048) (K : Fin 7184) (hK : K.val = 3072 + k.val) :
    bWgt m c t (ix2 k d) = wgt m c (ix2 d K) := by
  refine Eq.trans (b := (transpose S7184x2048 [1, 0] (wgt m c) transposes_S2048x7184_S7184x2048_1_0 : FVec Ideal S7184x2048 .f32) (ix2 K d)) ?_ (by pointwise)
  rw [← V_wgt]
  unfold bWgt X0_1 Pipeline.Window.fill
  rw [dif_pos (moved0_1 t _)]
  unfold iblk
  refine congrArg (V m c main_v2) (?_ : _ = (ix2 K d : S7184x2048.Idx))
  blk_ext [idx t]

/-- The 0/1 matrix that adds, for each row, the rows of its chunk of 64 up to it. -/
abbrev tri : FVec Ideal S256x256 .f32 := k0_pay8 (F := Ideal) k0_pay2 k0_pay3 k0_pay4 k0_pay5 k0_pay6 k0_pay7
theorem tri_apply (r k : Fin 256) : tri (ix2 r k) = if k.val ≤ r.val ∧ k.val / 64 = r.val / 64 then 1 else 0 := by
  have e : tri (ix2 r k) = Scalar.select (IntOp.andi (IntOp.cmpi CmpIPredicate.sge (BitVec.ofNat 32 r.val) (BitVec.ofNat 32 k.val))
    (IntOp.cmpi CmpIPredicate.eq (quot (BitVec.ofNat 32 r.val)) (quot (BitVec.ofNat 32 k.val)))) 1 0 := by
    pointwise [tri, k0_pay8, k0_pay2, k0_pay3, k0_pay4, k0_pay5, k0_pay6, k0_pay7, quot]
  rw [e, quot_eq, quot_eq, bit_eq]
  by_cases h : k.val ≤ r.val ∧ k.val / 64 = r.val / 64
  · rw [if_pos h, if_pos h]; rfl
  · rw [if_neg h, if_neg h]; rfl

/-- What the kernel makes of a quarter of a block of tokens. -/
def block (wl : FVec Ideal S128x2048 .f32) (x : FVec Ideal S256x2048 .f32) (u : FVec Ideal S128x512 .bf16) (b : FVec Ideal S1x512 .f32) :
    FVec Ideal S256x512 .f32 := k0_pay13 (F := Ideal) tri (k0_pay11 (F := Ideal) wl x u b) (k0_pay12 (F := Ideal))
theorem block15 (wl : FVec Ideal S128x2048 .f32) (x : FVec Ideal S256x2048 .f32) (u : FVec Ideal S128x512 .bf16) (b : FVec Ideal S1x512 .f32) :
    k0_pay15 (F := Ideal) tri (k0_pay9 (F := Ideal) wl) x u b = block wl x u b := rfl
theorem block17 (wl : FVec Ideal S128x2048 .f32) (x : FVec Ideal S256x2048 .f32) (u : FVec Ideal S128x512 .bf16) (b : FVec Ideal S1x512 .f32) :
    k0_pay17 (F := Ideal) tri (k0_pay9 (F := Ideal) wl) (k0_pay16 (F := Ideal) x) u b = block wl x u b := rfl
theorem block1 (wl : FVec Ideal S128x2048 .f32) (x : FVec Ideal S256x2048 .f32) (u : FVec Ideal S128x512 .bf16) (b : FVec Ideal S1x512 .f32) :
    k0_pay1 (F := Ideal) tri (k0_pay19 (F := Ideal) (k0_pay9 (F := Ideal) wl) x) k0_pay20 (FloatOps.ofBits (F := Ideal) FTy.f32 0#32) u b = block wl x u b := rfl

/-- The gate's input in row `r` of a quarter of a block. -/
def preBlk (wl : FVec Ideal S128x2048 .f32) (x : FVec Ideal S256x2048 .f32) (u : FVec Ideal S128x512 .bf16) (b : FVec Ideal S1x512 .f32)
    (r : Fin 256) (n : Fin 512) : EReal :=
  (∑ k : Fin 128, (if k.val < 16 then ∑ d : Fin 2048, x (ix2 r d) * wl (ix2 k d) else 0) * u (ix2 k n)) + b (ix2 0 n)

/-- The same with the first sixteen lanes selected in words. -/
def preSel (wl : FVec Ideal S128x2048 .f32) (x : FVec Ideal S256x2048 .f32) (u : FVec Ideal S128x512 .bf16) (b : FVec Ideal S1x512 .f32)
    (r : Fin 256) (n : Fin 512) : EReal :=
  (∑ k : Fin 128, Scalar.select (IntOp.cmpi CmpIPredicate.slt (BitVec.ofNat 32 k.val) 16#32)
    ((∑ d : Fin 2048, x (ix2 r d) * wl (ix2 k d)) * u (ix2 k n)) 0) + b (ix2 0 n)
theorem lane (k : Fin 128) : IntOp.cmpi CmpIPredicate.slt (BitVec.ofNat 32 k.val) 16#32 = if k.val < 16 then 1#1 else 0#1 := by
  revert k
  decide +kernel
theorem preSel_eq (wl : FVec Ideal S128x2048 .f32) (x : FVec Ideal S256x2048 .f32) (u : FVec Ideal S128x512 .bf16) (b : FVec Ideal S1x512 .f32)
    (r : Fin 256) (n : Fin 512) : preSel wl x u b r n = preBlk wl x u b r n := by
  unfold preSel preBlk
  refine congrArg (· + _) (Finset.sum_congr rfl fun k _ => ?_)
  rw [lane]
  by_cases h : k.val < 16
  · rw [if_pos h, if_pos h]; rfl
  · rw [if_neg h, if_neg h, zero_mul]; rfl

theorem logs_apply (wl : FVec Ideal S128x2048 .f32) (x : FVec Ideal S256x2048 .f32) (u : FVec Ideal S128x512 .bf16) (b : FVec Ideal S1x512 .f32)
    (r : Fin 256) (n : Fin 512) : Ideal.div (k0_pay11 (F := Ideal) wl x u b (ix2 r n)) (Ideal.ofBits FTy.f32 1098907648#32) = logAt (preBlk wl x u b r n) := by
  unfold logAt
  refine congrArg (Ideal.div · _) ?_
  rw [← preSel_eq]
  unfold preSel
  pointwise [k0_pay11, k0_pay9, k0_pay10]
  rfl
theorem block_apply (wl : FVec Ideal S128x2048 .f32) (x : FVec Ideal S256x2048 .f32) (u : FVec Ideal S128x512 .bf16) (b : FVec Ideal S1x512 .f32)
    (r : Fin 256) (n : Fin 512) : block wl x u b (ix2 r n) = ∑ k : Fin 256, tri (ix2 r k) * logAt (preBlk wl x u b k n) := by
  pointwise [block, k0_pay13, k0_pay12]
  exact Finset.sum_congr rfl fun k _ => congrArg (_ * ·) (logs_apply wl x u b k n)

/-- A row of the 0/1 matrix adds its chunk's rows up to it. -/
theorem tri_sum (f : Fin 256 → EReal) (r : Fin 256) :
    ∑ k : Fin 256, tri (ix2 r k) * f k = ∑ i : Fin 64, if i.val ≤ r.val % 64 then f ⟨r.val / 64 * 64 + i.val, by omega⟩ else 0 := by
  simp only [tri_apply, ite_mul, one_mul, zero_mul]
  rw [← Finset.sum_filter, ← Finset.sum_filter]
  refine Finset.sum_nbij' (fun k => (⟨k.val % 64, by omega⟩ : Fin 64)) (fun i => (⟨r.val / 64 * 64 + i.val, by omega⟩ : Fin 256)) ?_ ?_ ?_ ?_ ?_
  · intro k hk
    rw [Finset.mem_filter] at hk ⊢
    refine ⟨Finset.mem_univ _, ?_⟩
    show k.val % 64 ≤ _
    omega
  · intro i hi
    rw [Finset.mem_filter] at hi ⊢
    have h2 := hi.2
    refine ⟨Finset.mem_univ _, ?_⟩
    show r.val / 64 * 64 + i.val ≤ r.val ∧ (r.val / 64 * 64 + i.val) / 64 = r.val / 64
    omega
  · intro k hk
    rw [Finset.mem_filter] at hk
    refine Fin.ext ?_
    show r.val / 64 * 64 + k.val % 64 = k.val
    omega
  · intro i hi
    refine Fin.ext ?_
    show (r.val / 64 * 64 + i.val) % 64 = i.val
    omega
  · intro k hk
    rw [Finset.mem_filter] at hk
    refine congrArg f (Fin.ext ?_)
    show k.val = r.val / 64 * 64 + k.val % 64
    omega

/-- A sum whose terms past the sixteenth are zero. -/
theorem sum_first (f : Fin 128 → EReal) (h : ∀ k : Fin 128, ¬ k.val < 16 → f k = 0) :
    ∑ k, f k = ∑ k : Fin 16, f ⟨k.val, by omega⟩ := by
  refine (Fin.sum_univ_add (a := 16) (b := 112) f).trans ?_
  rw [Finset.sum_eq_zero (s := Finset.univ) (f := fun i : Fin 112 => f (Fin.natAdd 16 i)) (fun i _ => h _ (by
    show ¬ 16 + i.val < 16
    omega)), add_zero]
  rfl

/-- The reference's first result. -/
abbrev sums (c : Dev nD) : FVec Ideal S8192x512 .f32 := plain (tok m c) (wgt m c) (up m c) (bias m c)

/-- A quarter of a block of tokens holds the rows of the reference's result. -/
theorem quarter (c : Dev nD) (t : Fin cfg0.N) (q : Fin 4) (wl : FVec Ideal S128x2048 .f32) (x : FVec Ideal S256x2048 .f32)
    (u : FVec Ideal S128x512 .bf16) (b : FVec Ideal S1x512 .f32) (hw : ∀ k d, wl (ix2 k d) = bWgt m c t (ix2 k d))
    (hx : ∀ (r : Fin 256) d, x (ix2 r d) = bTok m c t (ix2 ⟨q.val * 256 + r.val, by omega⟩ d))
    (hu : ∀ k n, u (ix2 k n) = bUp m c t (ix2 k n)) (hb : ∀ n, b (ix2 0 n) = bBias m c t (ix2 0 n))
    (r : Fin 256) (n : Fin 512) (T : Fin 8192) (hT : T.val = t.val * 1024 + (q.val * 256 + r.val)) :
    block wl x u b (ix2 r n) = sums m c (ix2 T n) := by
  unfold sums
  rw [block_apply, tri_sum, plain_apply]
  have hm : T.val % 64 = r.val % 64 := by omega
  refine Finset.sum_congr rfl fun i _ => ?_
  rw [hm]
  refine if_congr Iff.rfl (congrArg logAt ?_) rfl
  unfold preBlk preAt
  rw [hb, bias_at]
  refine congrArg (· + _) ?_
  refine (sum_first _ fun k hk => by rw [if_neg hk, zero_mul]).trans ?_
  refine Finset.sum_congr rfl fun k _ => ?_
  have hk : k.val < 16 := k.isLt
  rw [if_pos (show (⟨k.val, by omega⟩ : Fin 128).val < 16 from hk), hu, up_at, dif_pos (show (⟨k.val, by omega⟩ : Fin 128).val < 16 from hk)]
  refine congrArg (· * _) (Finset.sum_congr rfl fun d _ => ?_)
  rw [hx, hw, tok_at m c t _ d ⟨T.val / 64 * 64 + i.val, by omega⟩ (by simp only []; omega),
    wgt_at m c t _ d ⟨3072 + k.val, by omega⟩ rfl]

/-- The running sums after the run. -/
theorem final4 (c : Dev nD) : (dats m 0 c).arrAt 4 cfg0.N = sums m c := by
  refine (dats m 0 c).arrAt_eq_of_covers 4 _ (by decide +kernel) fun t hf y => ?_
  blk_simp
  rw [after0_4]
  have hN : t.val < 8 := (idx t).2.2.2.2.2.2
  unfold outsAt0 out0_A_4
  dsimp only
  rw [View.read_writes_eq_canon _ _ _ (cover0_A_4 c _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  canon_tiles y h
  · idx_vars y
    have hT : t.val * 1024 + (3 * 256 + y0.val) < 8192 := by omega
    have e : (win0_4.blk t).view.emb y = (ix2 (⟨t.val * 1024 + (3 * 256 + y0.val), hT⟩ : Fin 8192) y1 : S8192x512.Idx) := by
      blk_ext [idx t]
    exact ((congrFun (block1 _ _ _ _) _).trans (quarter m c t 3 _ _ _ _ (fun k d => by pointwise) (fun r d => by pointwise) (fun k n => by pointwise) (fun n => by pointwise)
      y0 y1 _ rfl)).trans (congrArg _ e.symm)
  · idx_vars y
    have hT : t.val * 1024 + (2 * 256 + y0.val) < 8192 := by omega
    have e : (win0_4.blk t).view.emb y = (ix2 (⟨t.val * 1024 + (2 * 256 + y0.val), hT⟩ : Fin 8192) y1 : S8192x512.Idx) := by
      blk_ext [idx t]
    exact ((congrFun (block17 _ _ _ _) _).trans (quarter m c t 2 _ _ _ _ (fun k d => by pointwise) (fun r d => by pointwise) (fun k n => by pointwise) (fun n => by pointwise)
      y0 y1 _ rfl)).trans (congrArg _ e.symm)
  · idx_vars y
    have hT : t.val * 1024 + (1 * 256 + y0.val) < 8192 := by omega
    have e : (win0_4.blk t).view.emb y = (ix2 (⟨t.val * 1024 + (1 * 256 + y0.val), hT⟩ : Fin 8192) y1 : S8192x512.Idx) := by
      blk_ext [idx t]
    exact ((congrFun (block15 _ _ _ _) _).trans (quarter m c t 1 _ _ _ _ (fun k d => by pointwise) (fun r d => by pointwise) (fun k n => by pointwise) (fun n => by pointwise)
      y0 y1 _ rfl)).trans (congrArg _ e.symm)
  · idx_vars y
    have hT : t.val * 1024 + (0 * 256 + y0.val) < 8192 := by omega
    have e : (win0_4.blk t).view.emb y = (ix2 (⟨t.val * 1024 + (0 * 256 + y0.val), hT⟩ : Fin 8192) y1 : S8192x512.Idx) := by
      blk_ext [idx t]
    exact ((quarter m c t 0 _ _ _ _ (fun k d => by pointwise) (fun r d => by pointwise) (fun k n => by pointwise) (fun n => by pointwise)
      y0 y1 _ rfl)).trans (congrArg _ e.symm)

/-- The tokens after the run: cast. -/
theorem final5 (c : Dev nD) : (dats m 0 c).arrAt 5 cfg0.N = tok m c := by
  refine (dats m 0 c).arrAt_eq_of_covers 5 _ (by decide +kernel) fun t hf y => ?_
  blk_simp
  rw [after0_5]
  have hN : t.val < 8 := (idx t).2.2.2.2.2.2
  unfold outsAt0 out0_A_5
  dsimp only
  rw [View.read_writes_eq_canon _ _ _ (cover0_A_5 c _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  canon_tiles y h
  · idx_vars y
    have hT : t.val * 1024 + (768 + y0.val) < 8192 := by omega
    have e : (win0_5.blk t).view.emb y = (ix2 (⟨t.val * 1024 + (768 + y0.val), hT⟩ : Fin 8192) y1 : S8192x2048.Idx) := by
      blk_ext [idx t]
    refine Eq.trans ?_ (congrArg _ e.symm)
    refine Eq.trans ?_ (tok_at m c t ⟨768 + y0.val, by omega⟩ y1 _ rfl)
    pointwise [k0_pay18]
  · idx_vars y
    have hT : t.val * 1024 + (512 + y0.val) < 8192 := by omega
    have e : (win0_5.blk t).view.emb y = (ix2 (⟨t.val * 1024 + (512 + y0.val), hT⟩ : Fin 8192) y1 : S8192x2048.Idx) := by
      blk_ext [idx t]
    refine Eq.trans ?_ (congrArg _ e.symm)
    refine Eq.trans ?_ (tok_at m c t ⟨512 + y0.val, by omega⟩ y1 _ rfl)
    pointwise [k0_pay16]
  · idx_vars y
    have hT : t.val * 1024 + (256 + y0.val) < 8192 := by omega
    have e : (win0_5.blk t).view.emb y = (ix2 (⟨t.val * 1024 + (256 + y0.val), hT⟩ : Fin 8192) y1 : S8192x2048.Idx) := by
      blk_ext [idx t]
    refine Eq.trans ?_ (congrArg _ e.symm)
    refine Eq.trans ?_ (tok_at m c t ⟨256 + y0.val, by omega⟩ y1 _ rfl)
    pointwise [k0_pay14]
  · idx_vars y
    have hT : t.val * 1024 + (0 + y0.val) < 8192 := by omega
    have e : (win0_5.blk t).view.emb y = (ix2 (⟨t.val * 1024 + (0 + y0.val), hT⟩ : Fin 8192) y1 : S8192x2048.Idx) := by
      blk_ext [idx t]
    refine Eq.trans ?_ (congrArg _ e.symm)
    refine Eq.trans ?_ (tok_at m c t ⟨0 + y0.val, by omega⟩ y1 _ rfl)
    pointwise [k0_pay10]

end Cert.Kernel4Ideal.Gate
-- ==== Proof.MixCopy.lean ====
module

public import proofs.«01_k».proof.Proof.Gen.Kernel5Ideal.Frame
public import proofs.«01_k».proof.Proof.PeerRef

@[expose] public section

/-! The mixer's second result: the output weights, cast slab by slab while the chunks are worked through. -/

set_option maxRecDepth 16384

noncomputable section

namespace Cert.Kernel5Ideal.Mix

open Cert.Kernel5Ideal Cert.Kernel5Ideal.Gen
open Idealize.ShloMosaic Idealize.ShloMosaic.TcCoe Idealize.SL.Sem
open Idealize.ShloMosaic.Pipeline (Dat)
open Idealize.ShloMosaic.View (ld)

variable (m : (ℓ : Loc nD τ sig) → Buf (Elt Ideal) ℓ)

/-- The slabs' places at point `t`. -/
theorem idx : ∀ t : Fin cfg0.N, win0_6.index t = ![t.val, 0] ∧ win0_8.index t = ![t.val, 0] ∧ t.val < 16 :=
  (by decide +kernel : ∀ t : Fin grid0.N, _)

/-- The output weights. -/
abbrev wgt (c : Dev nD) : FVec Ideal S2048x2048 .f32 := m ((c.tc : Thread nD τ).loc main_arg4)
abbrev bWgt (c : Dev nD) (t : Fin cfg0.N) : FVec Ideal S128x2048 .f32 := iblk m c 6 t

theorem wgt_at (c : Dev nD) (t : Fin cfg0.N) (r : Fin 128) (d : Fin 2048) (R : Fin 2048) (hR : R.val = t.val * 128 + r.val) :
    bWgt m c t (ix2 r d) = wgt m c (ix2 R d) := by
  unfold bWgt
  blk_point [iblk, idx t]

/-- The slab of weights, loaded whole. -/
theorem ld_whole (M : Memref sig .tc .vmem S128x2048 .f32) (h : M.IsWhole) (x : Vec Ideal S128x2048 .f32) :
    View.readAt (Elt Ideal) M.view (Rect.unit ![0, 0] ![128, 2048] inb_S128x2048_S128x2048_0_0).toLoadRect (h.unread x) = x := by
  rw [View.readAt_full]
  exact h.read_unread x

/-- What a point leaves in the slab of the second result, whether it clears the states first or not. -/
theorem slab (c : Dev nD) (t : Fin cfg0.N) : (outsAt0 m c t.val t.isLt).2.1 = k0_pay3 (F := Ideal) (bWgt m c t) := by
  by_cases h : t.val % 4 = 0
  · rw [outsAt0_A m c t h]
    dsimp only
    unfold out0_A_8
    rw [View.read_writes_eq_canon _ _ _ (cover0_A_8 c _ _ _ _ _ _ _ _ _ _ _ _ _ _ _ _ _ _ _ _ _ _ _ _ _ _ _ _ _ _ _)]
    unfold kernelRun0_A
    dsimp only
    funext x
    canon_tiles x h
    rename_i z
    have e : x = z := funext fun a => Fin.ext (by fin_cases a <;> simp_all)
    subst e
    rw [ld_whole]
  · rw [outsAt0_B m c t h]
    dsimp only
    unfold out0_B_8
    rw [View.read_writes_eq_canon _ _ _ (cover0_B_8 c _ _ _ _ _ _ _ _ _ _ _ _ _ _ _ _ _ _ _ _ _ _ _ _ _ _ _ _ _ _ _ _ _)]
    unfold kernelRun0_B
    dsimp only
    funext x
    canon_tiles x h
    rename_i z
    have e : x = z := funext fun a => Fin.ext (by fin_cases a <;> simp_all)
    subst e
    rw [ld_whole]

/-- The output weights after the run: cast. -/
theorem final8 (c : Dev nD) : (dats m 0 c).arrAt 8 cfg0.N = wgt m c := by
  refine (dats m 0 c).arrAt_eq_of_covers 8 _ (by decide +kernel) fun t hf y => ?_
  blk_simp
  rw [after0_8]
  have hN : t.val < 16 := (idx t).2.2
  change (outsAt0 m c t.val t.isLt).2.1 (y : S128x2048.Idx) = _
  rw [slab]
  obtain ⟨y0, y1, rfl⟩ : ∃ a b, y = (ix2 a b : S128x2048.Idx) := ⟨y 0, y 1, by funext a; fin_cases a <;> rfl⟩
  have hT : t.val * 128 + y0.val < 2048 := by omega
  have e : (win0_8.blk t).view.emb (ix2 y0 y1 : S128x2048.Idx) = (ix2 (⟨t.val * 128 + y0.val, hT⟩ : Fin 2048) y1 : S2048x2048.Idx) := by
    blk_ext [idx t]
  refine Eq.trans ?_ (congrArg _ e.symm)
  refine Eq.trans ?_ (wgt_at m c t y0 y1 _ rfl)
  pointwise [k0_pay3]

end Cert.Kernel5Ideal.Mix
-- ==== Proof.MixCopyRef.lean ====
module

public import proofs.«01_k».proof.Reference5Ideal
public import proofs.«01_k».proof.Proof.Gen.Reference2Ideal.Run
public import Idealize.ShloMosaic.Lib.StableHlo.Run

@[expose] public section

/-! The reference of the mixer's second result: one cast. -/

noncomputable section

namespace Cert.Reference5Ideal.Mix

open Idealize.ShloMosaic Idealize.ShloMosaic.TcCoe Idealize.SL.Sem Idealize.ShloMosaic.StableHlo

instance facts₀ : Cert.Reference5Ideal.Facts₀ where
  bitsLt_bf16_f32 := by decide
instance facts : Cert.Reference5Ideal.Facts where

open Cert.Reference5Ideal

variable {F : FTy → Type} [FloatOps F]

/-- The one operation. -/
abbrev ops : List (HloOp τ sig (Elt F)) :=
  [unary main_arg4 main_v0 ((truncf .bf16 · Facts₀.bitsLt_bf16_f32) : (⟨S2048x2048, .f32⟩ : BufTy).Contents (Elt F) → (⟨S2048x2048, .bf16⟩ : BufTy).Contents (Elt F))]

/-- Every run ends with the weights cast and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = truncf .bf16 (m ((c.tc : Thread nD τ).loc main_arg4)) Facts₀.bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v0).trans (by after_results), (h c main_arg0).trans (by after_results),
      (h c main_arg1).trans (by after_results), (h c main_arg2).trans (by after_results),
      (h c main_arg3).trans (by after_results), (h c main_arg4).trans (by after_results)⟩)
    (run_seq (by decide) (by decide) defs main (fun _ => ops) (fun _ => rfl)
      (fun _ => (unary_bufs_sub .. : (unary (τ := τ) (sig := sig) main_arg4 main_v0 ((truncf (F := F) .bf16 · Facts₀.bitsLt_bf16_f32) : (⟨S2048x2048, .f32⟩ : BufTy).Contents (Elt F) → (⟨S2048x2048, .bf16⟩ : BufTy).Contents (Elt F))).bufs ⊆ tcRefs τ sig)) m ρ)

end Cert.Reference5Ideal.Mix
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.PeerFrame
public import proofs.«01_k».proof.Proof.PeerSum
public import proofs.«01_k».proof.Proof.PeerSame
public import proofs.«01_k».proof.Proof.ProjValue
public import proofs.«01_k».proof.Proof.OutValue
public import proofs.«01_k».proof.Proof.GateValue
public import proofs.«01_k».proof.Proof.MixCopy
public import proofs.«01_k».proof.Proof.MixCopyRef
public import Idealize.ShloMosaic.Adequacy
public import Idealize.ShloMosaic.Init

@[expose] public section

noncomputable section

namespace Cert.Proof

open Idealize.ShloMosaic Idealize.SL.Sem Cert.Kernel

theorem frame_kernel_ideal : Cert.quiescent_KernelIdeal := fun m g _ => Cert.KernelIdeal.Dense.frame_args (F := Ideal) m g

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem value : Cert.algebraic_KernelIdeal_ReferenceIdeal := fun m g m' g' _ agree =>
  ⟨fun c => (Cert.KernelIdeal.Dense.dats m 0 c).arrAt 8 (Cert.KernelIdeal.cfgs 0).N,
    (θ_run Cert.KernelIdeal.defs _ _).mono (fun _ h c => h.1 c) (Cert.KernelIdeal.Dense.run_args (F := Ideal) m g),
    (θ_run Cert.ReferenceIdeal.defs _ _).mono (fun r h c => ⟨(h c).1.trans (by
        obtain ⟨h0, h1, h2, h3, h4, h5⟩ := agree c
        refine Eq.trans ?_ (Cert.KernelIdeal.Dense.final m c).symm
        rw [Cert.ReferenceIdeal.Dense.res_eq, h0, h1, h2, h3, h4, h5]), (h c).2⟩)
      (Cert.ReferenceIdeal.Value.run m' g')⟩

/-- The input projections. -/
theorem value2 : Cert.algebraic_Kernel2Ideal_Reference2Ideal := fun m g m' g' _ agree =>
  ⟨fun c => Cert.Kernel2Ideal.Proj.plain (Cert.Kernel2Ideal.Proj.tok m c) (Cert.Kernel2Ideal.Proj.wgt m c),
    (θ_run Cert.Kernel2Ideal.defs _ _).mono (fun _ h c => ⟨(h c).1.trans (Cert.Kernel2Ideal.Proj.final m c), (h c).2⟩)
      (Cert.Kernel2Ideal.Value.run_blocks (F := Ideal) m g),
    (θ_run Cert.Reference2Ideal.defs _ _).mono (fun r h c => ⟨(h c).1.trans (by
        obtain ⟨h0, h1⟩ := agree c
        rw [h0, h1]; rfl), (h c).2⟩)
      (Cert.Reference2Ideal.Value.run m' g')⟩

theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run m g)

/-- The output projection and its normalisation. -/
theorem value3 : Cert.algebraic_Kernel3Ideal_Reference3Ideal := fun m g m' g' _ agree =>
  ⟨fun c => Cert.Kernel3Ideal.Out.plain m c, fun c => Cert.Kernel3Ideal.Out.plain m c, fun c => Cert.Kernel3Ideal.Out.qry m c,
    (θ_run Cert.Kernel3Ideal.defs _ _).mono (fun _ h c => ⟨(h c).1.trans (Cert.Kernel3Ideal.Out.final6 m c),
        (h c).2.1.trans (Cert.Kernel3Ideal.Out.final7 m c), (h c).2.2.1.trans (Cert.Kernel3Ideal.Out.final8 m c), (h c).2.2.2⟩)
      (Cert.Kernel3Ideal.Value.run_blocks (F := Ideal) m g),
    (θ_run Cert.Reference3Ideal.defs _ _).mono (fun r h c => by
        obtain ⟨h0, h1, h2, h3, h4, h5⟩ := agree c
        obtain ⟨k0, k1, k2, k3⟩ := h c
        refine ⟨k0.trans ?_, k1.trans ?_, k2.trans ?_, k3⟩
        · rw [h0, h1, h2, h3, h4]; rfl
        · rw [h0, h1, h2, h3, h4]; rfl
        · rw [h5]; rfl)
      (Cert.Reference3Ideal.Value.run m' g')⟩

theorem frame_reference3 : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run m g)

/-- The decay gates' running sums. -/
theorem value4 : Cert.algebraic_Kernel4Ideal_Reference4Ideal := fun m g m' g' _ agree =>
  ⟨fun c => Cert.Kernel4Ideal.Gate.sums m c, fun c => Cert.Kernel4Ideal.Gate.tok m c,
    (θ_run Cert.Kernel4Ideal.defs _ _).mono (fun _ h c => ⟨(h c).1.trans (Cert.Kernel4Ideal.Gate.final4 m c),
        (h c).2.1.trans (Cert.Kernel4Ideal.Gate.final5 m c), (h c).2.2⟩)
      (Cert.Kernel4Ideal.Value.run_blocks (F := Ideal) m g),
    (θ_run Cert.Reference4Ideal.defs _ _).mono (fun r h c => by
        obtain ⟨h0, h1, h2, h3⟩ := agree c
        obtain ⟨k0, k1, k2⟩ := h c
        refine ⟨k0.trans ?_, k1.trans ?_, k2⟩
        · rw [h0, h1, h2, h3]; rfl
        · rw [h0]; rfl)
      (Cert.Reference4Ideal.Value.run m' g')⟩

theorem frame_reference4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run m g)

/-- The mixer's copy of the output weights. -/
theorem value5 : Cert.algebraic_Kernel5Ideal_Reference5Ideal := fun m g m' g' _ agree =>
  ⟨fun c => Cert.Kernel5Ideal.Mix.wgt m c,
    (θ_run Cert.Kernel5Ideal.defs _ _).mono (fun _ h c => ⟨((h.2 c).1 8).trans (Cert.Kernel5Ideal.Mix.final8 m c), h.1 c⟩)
      (θ_run_and (Cert.Kernel5Ideal.Gen.unchanged (F := Ideal) m g) (Cert.Kernel5Ideal.Gen.run_main (F := Ideal) m g)),
    (θ_run Cert.Reference5Ideal.defs _ _).mono (fun r h c => ⟨(h c).1.trans (by
        rw [(agree c).2.2.2.2]; rfl), (h c).2⟩)
      (Cert.Reference5Ideal.Mix.run m' g')⟩

theorem frame_reference5 : Cert.quiescent_Reference5Ideal := fun m g _ =>
  (θ_run Cert.Reference5Ideal.defs _ _).mono (fun r h => ⟨fun c => (h c).2, sem_eq_zero_of_no_sems (by decide) r.2⟩)
    (Cert.Reference5Ideal.Mix.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Mix.facts,
  Cert.Dense.frame_kernel, frame_kernel_ideal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  trivial, value, trivial, value2, trivial, value3, trivial, value4, trivial, value5⟩

end Cert.Proof

end
